-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_separated [hPre_finite_and_separated : Cert.Pre_finite_and_separated.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite_and_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite_and_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_finite_and_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_finite_and_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_finite_and_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 = (fun _ => 1#1)
    ∧ (Cert.Pre_finite_and_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.1 = (fun _ => 1#1)
    ∧ (Cert.Pre_finite_and_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.1 = (fun _ => 1#1)
    ∧ (Cert.Pre_finite_and_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.1 = (fun _ => 1#1)
    ∧ (Cert.Pre_finite_and_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.1 = (fun _ => 1#1)
    ∧ (Cert.Pre_finite_and_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.2.1 = (fun _ => 1#1)
    ∧ (Cert.Pre_finite_and_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_separated [hPre_finite_and_separated : Cert.Pre_finite_and_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite_and_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite_and_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_finite_and_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_finite_and_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_finite_and_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.1 = (fun _ => 1#1)
    ∧ (Cert.Pre_finite_and_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.1 = (fun _ => 1#1)
    ∧ (Cert.Pre_finite_and_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.1 = (fun _ => 1#1)
    ∧ (Cert.Pre_finite_and_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.1 = (fun _ => 1#1)
    ∧ (Cert.Pre_finite_and_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.1 = (fun _ => 1#1)
    ∧ (Cert.Pre_finite_and_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.2.1 = (fun _ => 1#1)
    ∧ (Cert.Pre_finite_and_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_and_separated [hKernelIdeal : Cert.KernelIdeal.Facts] [hPre_finite_and_separated : Cert.Pre_finite_and_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_and_separated [hReferenceIdeal : Cert.ReferenceIdeal.Facts] [hPre_finite_and_separated : Cert.Pre_finite_and_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_finite_and_separated [hKernelIdeal : Cert.KernelIdeal.Facts] [hReferenceIdeal : Cert.ReferenceIdeal.Facts] [hPre_finite_and_separated : Cert.Pre_finite_and_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_and_separated : Cert.Pre_finite_and_separated.Facts),
    quiescent_Kernel (hKernel := hKernel)
    ∧ quiescent_KernelIdeal (hKernelIdeal := hKernelIdeal)
    ∧ quiescent_KernelIdeal_pre_finite_and_separated (hKernelIdeal := hKernelIdeal) (hPre_finite_and_separated := hPre_finite_and_separated)
    ∧ quiescent_ReferenceIdeal (hReferenceIdeal := hReferenceIdeal)
    ∧ quiescent_ReferenceIdeal_pre_finite_and_separated (hReferenceIdeal := hReferenceIdeal) (hPre_finite_and_separated := hPre_finite_and_separated)
    ∧ preserves_Kernel_KernelIdeal
    ∧ algebraic_KernelIdeal_ReferenceIdeal_pre_finite_and_separated (hKernelIdeal := hKernelIdeal) (hReferenceIdeal := hReferenceIdeal) (hPre_finite_and_separated := hPre_finite_and_separated)
-- ==== Pre_finite_and_separated.lean ====
abbrev S8x1024x3 : Shape := ⟨3, ![8, 1024, 3]⟩
abbrev S8x1024x256 : Shape := ⟨3, ![8, 1024, 256]⟩
abbrev S8x8192x3 : Shape := ⟨3, ![8, 8192, 3]⟩
abbrev S8x8192x128 : Shape := ⟨3, ![8, 8192, 128]⟩
abbrev S256x384 : Shape := ⟨2, ![256, 384]⟩
abbrev S256 : Shape := ⟨1, ![256]⟩
abbrev S256x256 : Shape := ⟨2, ![256, 256]⟩
abbrev S_ : Shape := ⟨0, ![]⟩
abbrev S8x8192x1024 : Shape := ⟨3, ![8, 8192, 1024]⟩
abbrev S8x8192 : Shape := ⟨2, ![8, 8192]⟩
abbrev S8x8192x1 : Shape := ⟨3, ![8, 8192, 1]⟩
abbrev S8x1024 : Shape := ⟨2, ![8, 1024]⟩
abbrev S8x1x1024 : Shape := ⟨3, ![8, 1, 1024]⟩

class Facts : Prop where
  bcast_S_S8x8192x1024 : S_.BroadcastsInDim S8x8192x1024 (![] : Fin 0 → Fin S8x8192x1024.rank)
  reducesTo_S8x8192x3_S8x8192_d2 : S8x8192x3.ReducesTo [2] S8x8192
  h_S_ : 0 < S_.numel
  bcast_S8x8192_S8x8192x1_0_1 : S8x8192.BroadcastsInDim S8x8192x1 (![0, 1] : Fin 2 → Fin S8x8192x1.rank)
  bcast_S8x8192x1_S8x8192x1024_0_1_2 : S8x8192x1.BroadcastsInDim S8x8192x1024 (![0, 1, 2] : Fin 3 → Fin S8x8192x1024.rank)
  reducesTo_S8x1024x3_S8x1024_d2 : S8x1024x3.ReducesTo [2] S8x1024
  bcast_S8x1024_S8x1x1024_0_2 : S8x1024.BroadcastsInDim S8x1x1024 (![0, 2] : Fin 2 → Fin S8x1x1024.rank)
  bcast_S8x1x1024_S8x8192x1024_0_1_2 : S8x1x1024.BroadcastsInDim S8x8192x1024 (![0, 1, 2] : Fin 3 → Fin S8x8192x1024.rank)
  slices_S8x8192x1024_S8x8192x1_0_0_2 : S8x8192x1024.Slices ![0, 0, 2] S8x8192x1
  slices_S8x8192x1024_S8x8192x1_0_0_3 : S8x8192x1024.Slices ![0, 0, 3] S8x8192x1
  bcast_S_S8x1024x3 : S_.BroadcastsInDim S8x1024x3 (![] : Fin 0 → Fin S8x1024x3.rank)
  bcast_S_S8x1024x256 : S_.BroadcastsInDim S8x1024x256 (![] : Fin 0 → Fin S8x1024x256.rank)
  bcast_S_S8x8192x3 : S_.BroadcastsInDim S8x8192x3 (![] : Fin 0 → Fin S8x8192x3.rank)
  bcast_S_S8x8192x128 : S_.BroadcastsInDim S8x8192x128 (![] : Fin 0 → Fin S8x8192x128.rank)
  bcast_S_S256x384 : S_.BroadcastsInDim S256x384 (![] : Fin 0 → Fin S256x384.rank)
  bcast_S_S256 : S_.BroadcastsInDim S256 (![] : Fin 0 → Fin S256.rank)
  bcast_S_S256x256 : S_.BroadcastsInDim S256x256 (![] : Fin 0 → Fin S256x256.rank)
  dot_S8x8192x3_S8x1024x3_S8x8192x1024_2_2_1_1_0_0_wf : DotDims.WF S8x8192x3 S8x1024x3 S8x8192x1024 [2] [2] [1] [1] [0] [0]

variable [Facts]

variable {F : FTy → Type} [FloatOps F]
def dot_S8x8192x3_S8x1024x3_S8x8192x1024_2_2_1_1_0_0 : DotDims S8x8192x3 S8x1024x3 S8x8192x1024 where
  lhsContracting := [2]
  rhsContracting := [2]
  lhsNonContracting := [1]
  rhsNonContracting := [1]
  lhsBatch := [0]
  rhsBatch := [0]
  wf := dot_S8x8192x3_S8x1024x3_S8x8192x1024_2_2_1_1_0_0_wf
def comparator_f32_d2 : F .f32 → F .f32 → BitVec 1 :=
  fun l r =>
    let cst_13 := FloatOps.ofBits .f32 0x00000000#32
    let v50 := FloatOps.cmpf .oeq l cst_13
    let cst_14 := FloatOps.ofBits .f32 0x00000000#32
    let v51 := Scalar.select v50 cst_14 l
    let v52 := FloatOps.cmpf .une l l
    let cst_15 := FloatOps.ofBits .f32 0x7FC00000#32
    let v53 := Scalar.select v52 cst_15 v51
    let cst_16 := FloatOps.ofBits .f32 0x00000000#32
    let v54 := FloatOps.cmpf .oeq r cst_16
    let cst_17 := FloatOps.ofBits .f32 0x00000000#32
    let v55 := Scalar.select v54 cst_17 r
    let v56 := FloatOps.cmpf .une r r
    let cst_18 := FloatOps.ofBits .f32 0x7FC00000#32
    let v57 := Scalar.select v56 cst_18 v55
    let v58 := FloatOps.cmpfTotal .lt v53 v57
    v58

def fn_part2 {F : FTy → Type} [FloatOps F] (main_arg8 : FVec F S256x256 .f32) (main_arg9 : FVec F S256 .f32) (main_arg10 : FVec F S256 .f32) (main_v14 : FVec F S8x8192x1 .f32) (main_v15 : FVec F S8x8192x1 .f32) (main_v18 : IVec S8x1024x3 1) (main_v21 : IVec S8x1024x256 1) (main_v24 : IVec S8x8192x3 1) (main_v27 : IVec S8x8192x128 1) (main_v30 : IVec S256x384 1) (main_v33 : IVec S256 1) (main_v36 : IVec S256 1) (main_v37 : FVec F S256 .f32) : IVec S8x1024x3 1 × IVec S8x1024x256 1 × IVec S8x8192x3 1 × IVec S8x8192x128 1 × IVec S256x384 1 × IVec S256 1 × IVec S256 1 × IVec S256 1 × IVec S256x256 1 × IVec S256 1 × IVec S256 1 × IVec S8x8192x1 1 :=
  let main_cst_9 : FVec F S_ .f32 := constant S_ .f32 0x7F800000#32
  let main_v38 : FVec F S256 .f32 := broadcastInDim S256 ![] bcast_S_S256 main_cst_9
  let main_v39 : IVec S256 1 := cmpf .olt main_v37 main_v38
  let main_v40 : FVec F S256x256 .f32 := Host.absf main_arg8
  let main_cst_10 : FVec F S_ .f32 := constant S_ .f32 0x7F800000#32
  let main_v41 : FVec F S256x256 .f32 := broadcastInDim S256x256 ![] bcast_S_S256x256 main_cst_10
  let main_v42 : IVec S256x256 1 := cmpf .olt main_v40 main_v41
  let main_v43 : FVec F S256 .f32 := Host.absf main_arg9
  let main_cst_11 : FVec F S_ .f32 := constant S_ .f32 0x7F800000#32
  let main_v44 : FVec F S256 .f32 := broadcastInDim S256 ![] bcast_S_S256 main_cst_11
  let main_v45 : IVec S256 1 := cmpf .olt main_v43 main_v44
  let main_v46 : FVec F S256 .f32 := Host.absf main_arg10
  let main_cst_12 : FVec F S_ .f32 := constant S_ .f32 0x7F800000#32
  let main_v47 : FVec F S256 .f32 := broadcastInDim S256 ![] bcast_S_S256 main_cst_12
  let main_v48 : IVec S256 1 := cmpf .olt main_v46 main_v47
  let main_v49 : IVec S8x8192x1 1 := cmpf .olt main_v14 main_v15
  (main_v18, main_v21, main_v24, main_v27, main_v30, main_v33, main_v36, main_v39, main_v42, main_v45, main_v48, main_v49)

def fn_part1 {F : FTy → Type} [FloatOps F] (main_arg2 : FVec F S8x8192x3 .f32) (main_arg3 : FVec F S8x8192x128 .f32) (main_arg4 : FVec F S256x384 .f32) (main_arg5 : FVec F S256 .f32) (main_arg6 : FVec F S256 .f32) (main_arg7 : FVec F S256 .f32) (main_arg8 : FVec F S256x256 .f32) (main_arg9 : FVec F S256 .f32) (main_arg10 : FVec F S256 .f32) (main_v14 : FVec F S8x8192x1 .f32) (main_v15 : FVec F S8x8192x1 .f32) (main_v18 : IVec S8x1024x3 1) (main_v19 : FVec F S8x1024x256 .f32) : IVec S8x1024x3 1 × IVec S8x1024x256 1 × IVec S8x8192x3 1 × IVec S8x8192x128 1 × IVec S256x384 1 × IVec S256 1 × IVec S256 1 × IVec S256 1 × IVec S256x256 1 × IVec S256 1 × IVec S256 1 × IVec S8x8192x1 1 :=
  let main_cst_3 : FVec F S_ .f32 := constant S_ .f32 0x7F800000#32
  let main_v20 : FVec F S8x1024x256 .f32 := broadcastInDim S8x1024x256 ![] bcast_S_S8x1024x256 main_cst_3
  let main_v21 : IVec S8x1024x256 1 := cmpf .olt main_v19 main_v20
  let main_v22 : FVec F S8x8192x3 .f32 := Host.absf main_arg2
  let main_cst_4 : FVec F S_ .f32 := constant S_ .f32 0x7F800000#32
  let main_v23 : FVec F S8x8192x3 .f32 := broadcastInDim S8x8192x3 ![] bcast_S_S8x8192x3 main_cst_4
  let main_v24 : IVec S8x8192x3 1 := cmpf .olt main_v22 main_v23
  let main_v25 : FVec F S8x8192x128 .f32 := Host.absf main_arg3
  let main_cst_5 : FVec F S_ .f32 := constant S_ .f32 0x7F800000#32
  let main_v26 : FVec F S8x8192x128 .f32 := broadcastInDim S8x8192x128 ![] bcast_S_S8x8192x128 main_cst_5
  let main_v27 : IVec S8x8192x128 1 := cmpf .olt main_v25 main_v26
  let main_v28 : FVec F S256x384 .f32 := Host.absf main_arg4
  let main_cst_6 : FVec F S_ .f32 := constant S_ .f32 0x7F800000#32
  let main_v29 : FVec F S256x384 .f32 := broadcastInDim S256x384 ![] bcast_S_S256x384 main_cst_6
  let main_v30 : IVec S256x384 1 := cmpf .olt main_v28 main_v29
  let main_v31 : FVec F S256 .f32 := Host.absf main_arg5
  let main_cst_7 : FVec F S_ .f32 := constant S_ .f32 0x7F800000#32
  let main_v32 : FVec F S256 .f32 := broadcastInDim S256 ![] bcast_S_S256 main_cst_7
  let main_v33 : IVec S256 1 := cmpf .olt main_v31 main_v32
  let main_v34 : FVec F S256 .f32 := Host.absf main_arg6
  let main_cst_8 : FVec F S_ .f32 := constant S_ .f32 0x7F800000#32
  let main_v35 : FVec F S256 .f32 := broadcastInDim S256 ![] bcast_S_S256 main_cst_8
  let main_v36 : IVec S256 1 := cmpf .olt main_v34 main_v35
  let main_v37 : FVec F S256 .f32 := Host.absf main_arg7
  fn_part2 (F := F) main_arg8 main_arg9 main_arg10 main_v14 main_v15 main_v18 main_v21 main_v24 main_v27 main_v30 main_v33 main_v36 main_v37

def fn {F : FTy → Type} [FloatOps F] (main_arg0 : FVec F S8x1024x3 .f32) (main_arg1 : FVec F S8x1024x256 .f32) (main_arg2 : FVec F S8x8192x3 .f32) (main_arg3 : FVec F S8x8192x128 .f32) (main_arg4 : FVec F S256x384 .f32) (main_arg5 : FVec F S256 .f32) (main_arg6 : FVec F S256 .f32) (main_arg7 : FVec F S256 .f32) (main_arg8 : FVec F S256x256 .f32) (main_arg9 : FVec F S256 .f32) (main_arg10 : FVec F S256 .f32) (main_arg11 : FVec F S256 .f32) : IVec S8x1024x3 1 × IVec S8x1024x256 1 × IVec S8x8192x3 1 × IVec S8x8192x128 1 × IVec S256x384 1 × IVec S256 1 × IVec S256 1 × IVec S256 1 × IVec S256x256 1 × IVec S256 1 × IVec S256 1 × IVec S8x8192x1 1 :=
  let main_cst : FVec F S_ .f32 := constant S_ .f32 0xC0000000#32
  let main_v0 : FVec F S8x8192x1024 .f32 := broadcastInDim S8x8192x1024 ![] bcast_S_S8x8192x1024 main_cst
  let main_v1 : FVec F S8x8192x1024 .f32 := (fun l r => Host.dotGeneral dot_S8x8192x3_S8x1024x3_S8x8192x1024_2_2_1_1_0_0 none l r) main_arg2 main_arg0
  let main_v2 : FVec F S8x8192x1024 .f32 := mulf main_v0 main_v1
  let main_v3 : FVec F S8x8192x3 .f32 := mulf main_arg2 main_arg2
  let main_cst_0 : FVec F S_ .f32 := constant S_ .f32 0x00000000#32
  let main_v4 : FVec F S8x8192 .f32 := (fun x v => Host.reduceAdd x v reducesTo_S8x8192x3_S8x8192_d2 h_S_) main_v3 main_cst_0
  let main_v5 : FVec F S8x8192x1 .f32 := broadcastInDim S8x8192x1 ![0, 1] bcast_S8x8192_S8x8192x1_0_1 main_v4
  let main_v6 : FVec F S8x8192x1024 .f32 := broadcastInDim S8x8192x1024 ![0, 1, 2] bcast_S8x8192x1_S8x8192x1024_0_1_2 main_v5
  let main_v7 : FVec F S8x8192x1024 .f32 := addf main_v2 main_v6
  let main_v8 : FVec F S8x1024x3 .f32 := mulf main_arg0 main_arg0
  let main_cst_1 : FVec F S_ .f32 := constant S_ .f32 0x00000000#32
  let main_v9 : FVec F S8x1024 .f32 := (fun x v => Host.reduceAdd x v reducesTo_S8x1024x3_S8x1024_d2 h_S_) main_v8 main_cst_1
  let main_v10 : FVec F S8x1x1024 .f32 := broadcastInDim S8x1x1024 ![0, 2] bcast_S8x1024_S8x1x1024_0_2 main_v9
  let main_v11 : FVec F S8x8192x1024 .f32 := broadcastInDim S8x8192x1024 ![0, 1, 2] bcast_S8x1x1024_S8x8192x1024_0_1_2 main_v10
  let main_v12 : FVec F S8x8192x1024 .f32 := addf main_v7 main_v11
  let main_v13 : FVec F S8x8192x1024 .f32 := (fun x => Host.sort S8x8192x1024 2 comparator_f32_d2 x) main_v12
  let main_v14 : FVec F S8x8192x1 .f32 := (extractStridedSlice S8x8192x1 ![0, 0, 2] · slices_S8x8192x1024_S8x8192x1_0_0_2) main_v13
  let main_v15 : FVec F S8x8192x1 .f32 := (extractStridedSlice S8x8192x1 ![0, 0, 3] · slices_S8x8192x1024_S8x8192x1_0_0_3) main_v13
  let main_v16 : FVec F S8x1024x3 .f32 := Host.absf main_arg0
  let main_cst_2 : FVec F S_ .f32 := constant S_ .f32 0x7F800000#32
  let main_v17 : FVec F S8x1024x3 .f32 := broadcastInDim S8x1024x3 ![] bcast_S_S8x1024x3 main_cst_2
  let main_v18 : IVec S8x1024x3 1 := cmpf .olt main_v16 main_v17
  let main_v19 : FVec F S8x1024x256 .f32 := Host.absf main_arg1
  fn_part1 (F := F) main_arg2 main_arg3 main_arg4 main_arg5 main_arg6 main_arg7 main_arg8 main_arg9 main_arg10 main_v14 main_v15 main_v18 main_v19
-- ==== Kernel.lean ====
abbrev S8x1024x3 : Shape := ⟨3, ![8, 1024, 3]⟩
abbrev S8x1024x256 : Shape := ⟨3, ![8, 1024, 256]⟩
abbrev S8x8192x3 : Shape := ⟨3, ![8, 8192, 3]⟩
abbrev S8x8192x128 : Shape := ⟨3, ![8, 8192, 128]⟩
abbrev S256x384 : Shape := ⟨2, ![256, 384]⟩
abbrev S256 : Shape := ⟨1, ![256]⟩
abbrev S256x256 : Shape := ⟨2, ![256, 256]⟩
abbrev S256x128 : Shape := ⟨2, ![256, 128]⟩
abbrev S256x1 : Shape := ⟨2, ![256, 1]⟩
abbrev S8x256x8192 : Shape := ⟨3, ![8, 256, 8192]⟩
abbrev S16x2x256 : Shape := ⟨3, ![16, 2, 256]⟩
abbrev S1x4096x3 : Shape := ⟨3, ![1, 4096, 3]⟩
abbrev S1x1024x3 : Shape := ⟨3, ![1, 1024, 3]⟩
abbrev S1x1024x256 : Shape := ⟨3, ![1, 1024, 256]⟩
abbrev S1x4096x128 : Shape := ⟨3, ![1, 4096, 128]⟩
abbrev S1x256x4096 : Shape := ⟨3, ![1, 256, 4096]⟩
abbrev S1x2x256 : Shape := ⟨3, ![1, 2, 256]⟩
abbrev S4096x3 : Shape := ⟨2, ![4096, 3]⟩
abbrev S1024x3 : Shape := ⟨2, ![1024, 3]⟩
abbrev S4096 : Shape := ⟨1, ![4096]⟩
abbrev S4096x1 : Shape := ⟨2, ![4096, 1]⟩
abbrev S1024 : Shape := ⟨1, ![1024]⟩
abbrev S1x1024 : Shape := ⟨2, ![1, 1024]⟩
abbrev S4096x1024 : Shape := ⟨2, ![4096, 1024]⟩
abbrev S4096x512 : Shape := ⟨2, ![4096, 512]⟩
abbrev S4096x256 : Shape := ⟨2, ![4096, 256]⟩
abbrev S4096x128 : Shape := ⟨2, ![4096, 128]⟩
abbrev S4096x384 : Shape := ⟨2, ![4096, 384]⟩
abbrev S1024x256 : Shape := ⟨2, ![1024, 256]⟩
abbrev S256x4096 : Shape := ⟨2, ![256, 4096]⟩
abbrev S1x1x256 : Shape := ⟨3, ![1, 1, 256]⟩
abbrev S_ : Shape := ⟨0, ![]⟩
abbrev S2x256 : Shape := ⟨2, ![2, 256]⟩
abbrev S1x256 : Shape := ⟨2, ![1, 256]⟩

abbrev nBuf : Space → Nat
  | .hbm => 67
  | .vmem => 31
  | .smem => 0
  | _ => 0

abbrev bufTy : (tb : Table) → Fin (tcTables nBuf tb) → BufTy
  | .hbm, ⟨0, _⟩ => ⟨S8x1024x3, .f32⟩
  | .hbm, ⟨1, _⟩ => ⟨S8x1024x256, .f32⟩
  | .hbm, ⟨2, _⟩ => ⟨S8x8192x3, .f32⟩
  | .hbm, ⟨3, _⟩ => ⟨S8x8192x128, .f32⟩
  | .hbm, ⟨4, _⟩ => ⟨S256x384, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256x128, .f32⟩
  | .hbm, ⟨13, _⟩ => ⟨S256x256, .f32⟩
  | .hbm, ⟨14, _⟩ => ⟨S256x1, .f32⟩
  | .hbm, ⟨15, _⟩ => ⟨S8x256x8192, .f32⟩
  | .hbm, ⟨16, _⟩ => ⟨S16x2x256, .f32⟩
  | .hbm, ⟨17, _⟩ => ⟨S_, .f32⟩
  | .hbm, ⟨18, _⟩ => ⟨S2x256, .f32⟩
  | .hbm, ⟨19, _⟩ => ⟨S1x256, .f32⟩
  | .hbm, ⟨20, _⟩ => ⟨S256, .f32⟩
  | .hbm, ⟨21, _⟩ => ⟨S_, .f32⟩
  | .hbm, ⟨22, _⟩ => ⟨S256, .f32⟩
  | .hbm, ⟨23, _⟩ => ⟨S256, .f32⟩
  | .hbm, ⟨24, _⟩ => ⟨S1x256, .f32⟩
  | .hbm, ⟨25, _⟩ => ⟨S256, .f32⟩
  | .hbm, ⟨26, _⟩ => ⟨S_, .f32⟩
  | .hbm, ⟨27, _⟩ => ⟨S256, .f32⟩
  | .hbm, ⟨28, _⟩ => ⟨S256, .f32⟩
  | .hbm, ⟨29, _⟩ => ⟨S256, .f32⟩
  | .hbm, ⟨30, _⟩ => ⟨S256, .f32⟩
  | .hbm, ⟨31, _⟩ => ⟨S_, .f32⟩
  | .hbm, ⟨32, _⟩ => ⟨S256, .f32⟩
  | .hbm, ⟨33, _⟩ => ⟨S256, .f32⟩
  | .hbm, ⟨34, _⟩ => ⟨S256, .f32⟩
  | .hbm, ⟨35, _⟩ => ⟨S256, .f32⟩
  | .hbm, ⟨36, _⟩ => ⟨S256, .f32⟩
  | .hbm, ⟨37, _⟩ => ⟨S256, .f32⟩
  | .hbm, ⟨38, _⟩ => ⟨S256x1, .f32⟩
  | .hbm, ⟨39, _⟩ => ⟨S256x1, .f32⟩
  | .hbm, ⟨40, _⟩ => ⟨S256x1, .f32⟩
  | .hbm, ⟨41, _⟩ => ⟨S8x256x8192, .f32⟩
  | .hbm, ⟨42, _⟩ => ⟨S16x2x256, .f32⟩
  | .hbm, ⟨43, _⟩ => ⟨S_, .f32⟩
  | .hbm, ⟨44, _⟩ => ⟨S2x256, .f32⟩
  | .hbm, ⟨45, _⟩ => ⟨S1x256, .f32⟩
  | .hbm, ⟨46, _⟩ => ⟨S256, .f32⟩
  | .hbm, ⟨47, _⟩ => ⟨S_, .f32⟩
  | .hbm, ⟨48, _⟩ => ⟨S256, .f32⟩
  | .hbm, ⟨49, _⟩ => ⟨S256, .f32⟩
  | .hbm, ⟨50, _⟩ => ⟨S1x256, .f32⟩
  | .hbm, ⟨51, _⟩ => ⟨S256, .f32⟩
  | .hbm, ⟨52, _⟩ => ⟨S_, .f32⟩
  | .hbm, ⟨53, _⟩ => ⟨S256, .f32⟩
  | .hbm, ⟨54, _⟩ => ⟨S256, .f32⟩
  | .hbm, ⟨55, _⟩ => ⟨S256, .f32⟩
  | .hbm, ⟨56, _⟩ => ⟨S256, .f32⟩
  | .hbm, ⟨57, _⟩ => ⟨S_, .f32⟩
  | .hbm, ⟨58, _⟩ => ⟨S256, .f32⟩
  | .hbm, ⟨59, _⟩ => ⟨S256, .f32⟩
  | .hbm, ⟨60, _⟩ => ⟨S256, .f32⟩
  | .hbm, ⟨61, _⟩ => ⟨S256, .f32⟩
  | .hbm, ⟨62, _⟩ => ⟨S256, .f32⟩
  | .hbm, ⟨63, _⟩ => ⟨S256, .f32⟩
  | .hbm, ⟨64, _⟩ => ⟨S256x1, .f32⟩
  | .hbm, ⟨65, _⟩ => ⟨S256x1, .f32⟩
  | .hbm, ⟨66, _⟩ => ⟨S8x256x8192, .f32⟩
  | .local _ .vmem, ⟨0, _⟩ => ⟨S1x4096x3, .f32⟩
  | .local _ .vmem, ⟨1, _⟩ => ⟨S1x4096x3, .f32⟩
  | .local _ .vmem, ⟨2, _⟩ => ⟨S1x1024x3, .f32⟩
  | .local _ .vmem, ⟨3, _⟩ => ⟨S1x1024x3, .f32⟩
  | .local _ .vmem, ⟨4, _⟩ => ⟨S1x1024x256, .f32⟩
  | .local _ .vmem, ⟨5, _⟩ => ⟨S1x1024x256, .f32⟩
  | .local _ .vmem, ⟨6, _⟩ => ⟨S1x4096x128, .f32⟩
  | .local _ .vmem, ⟨7, _⟩ => ⟨S1x4096x128, .f32⟩
  | .local _ .vmem, ⟨8, _⟩ => ⟨S256x128, .f32⟩
  | .local _ .vmem, ⟨9, _⟩ => ⟨S256x256, .f32⟩
  | .local _ .vmem, ⟨10, _⟩ => ⟨S256x1, .f32⟩
  | .local _ .vmem, ⟨11, _⟩ => ⟨S1x256x4096, .f32⟩
  | .local _ .vmem, ⟨12, _⟩ => ⟨S1x256x4096, .f32⟩
  | .local _ .vmem, ⟨13, _⟩ => ⟨S1x2x256, .f32⟩
  | .local _ .vmem, ⟨14, _⟩ => ⟨S1x2x256, .f32⟩
  | .local _ .vmem, ⟨15, _⟩ => ⟨S1x256x4096, .f32⟩
  | .local _ .vmem, ⟨16, _⟩ => ⟨S1x256x4096, .f32⟩
  | .local _ .vmem, ⟨17, _⟩ => ⟨S256x1, .f32⟩
  | .local _ .vmem, ⟨18, _⟩ => ⟨S256x1, .f32⟩
  | .local _ .vmem, ⟨19, _⟩ => ⟨S256x256, .f32⟩
  | .local _ .vmem, ⟨20, _⟩ => ⟨S256x1, .f32⟩
  | .local _ .vmem, ⟨21, _⟩ => ⟨S1x256x4096, .f32⟩
  | .local _ .vmem, ⟨22, _⟩ => ⟨S1x256x4096, .f32⟩
  | .local _ .vmem, ⟨23, _⟩ => ⟨S1x2x256, .f32⟩
  | .local _ .vmem, ⟨24, _⟩ => ⟨S1x2x256, .f32⟩
  | .local _ .vmem, ⟨25, _⟩ => ⟨S1x256x4096, .f32⟩
  | .local _ .vmem, ⟨26, _⟩ => ⟨S1x256x4096, .f32⟩
  | .local _ .vmem, ⟨27, _⟩ => ⟨S256x1, .f32⟩
  | .local _ .vmem, ⟨28, _⟩ => ⟨S256x1, .f32⟩
  | .local _ .vmem, ⟨29, _⟩ => ⟨S1x256x4096, .f32⟩
  | .local _ .vmem, ⟨30, _⟩ => ⟨S1x256x4096, .f32⟩
  | _, _ => ⟨S8x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3_0 : Ref sig .tc := ⟨.hbm, 15, rfl⟩
abbrev main_v3_1 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24_0 : Ref sig .tc := ⟨.hbm, 41, rfl⟩
abbrev main_v24_1 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg3_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem5_1 : DmaSem sig := 22
abbrev cc1_sem6_0 : DmaSem sig := 23
abbrev cc1_sem6_1 : DmaSem sig := 24
abbrev cc2_sem0_0 : DmaSem sig := 25
abbrev cc2_sem0_1 : DmaSem sig := 26
abbrev cc2_sem1_0 : DmaSem sig := 27
abbrev cc2_sem2_0 : DmaSem sig := 28
abbrev cc2_sem3_0 : DmaSem sig := 29
abbrev cc2_sem3_1 : DmaSem sig := 30

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨2, ![8, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_6 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage1_0 : Fin 2 → Memref sig .tc .vmem S1x256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S256x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S256x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S256x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x256x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x2x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨2, ![8, 2], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S256x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S256x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x256x4096 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]
-- ==== ReferenceIdeal.lean ====
abbrev S8x1024x3 : Shape := ⟨3, ![8, 1024, 3]⟩
abbrev S8x1024x256 : Shape := ⟨3, ![8, 1024, 256]⟩
abbrev S8x8192x3 : Shape := ⟨3, ![8, 8192, 3]⟩
abbrev S8x8192x128 : Shape := ⟨3, ![8, 8192, 128]⟩
abbrev S256x384 : Shape := ⟨2, ![256, 384]⟩
abbrev S256 : Shape := ⟨1, ![256]⟩
abbrev S256x256 : Shape := ⟨2, ![256, 256]⟩
abbrev S8x8192x1024 : Shape := ⟨3, ![8, 8192, 1024]⟩
abbrev S_ : Shape := ⟨0, ![]⟩
abbrev S8x8192 : Shape := ⟨2, ![8, 8192]⟩
abbrev S8x8192x1 : Shape := ⟨3, ![8, 8192, 1]⟩
abbrev S8x1024 : Shape := ⟨2, ![8, 1024]⟩
abbrev S8x1x1024 : Shape := ⟨3, ![8, 1, 1024]⟩
abbrev S8x8192x3x1 : Shape := ⟨4, ![8, 8192, 3, 1]⟩
abbrev S1 : Shape := ⟨1, ![1]⟩
abbrev S1x1x1x1 : Shape := ⟨4, ![1, 1, 1, 1]⟩
abbrev S8x8192x3x256 : Shape := ⟨4, ![8, 8192, 3, 256]⟩
abbrev S8x8192x256 : Shape := ⟨3, ![8, 8192, 256]⟩
abbrev S8x8192x384 : Shape := ⟨3, ![8, 8192, 384]⟩
abbrev S8x384x8192 : Shape := ⟨3, ![8, 384, 8192]⟩
abbrev S8x256x8192 : Shape := ⟨3, ![8, 256, 8192]⟩
abbrev S1x256x1 : Shape := ⟨3, ![1, 256, 1]⟩

abbrev nBuf : Space → Nat
  | .hbm => 185
  | .vmem => 0
  | .smem => 0
  | _ => 0

abbrev hbmTy0_0 (i : Nat) : BufTy := match i % 128 with
  | 0 => ⟨S8x1024x3, .f32⟩
  | 1 => ⟨S8x1024x256, .f32⟩
  | 2 => ⟨S8x8192x3, .f32⟩
  | 3 => ⟨S8x8192x128, .f32⟩
  | 4 => ⟨S256x384, .f32⟩
  | 5 => ⟨S256, .f32⟩
  | 6 => ⟨S256, .f32⟩
  | 7 => ⟨S256, .f32⟩
  | 8 => ⟨S256x256, .f32⟩
  | 9 => ⟨S256, .f32⟩
  | 10 => ⟨S256, .f32⟩
  | 11 => ⟨S256, .f32⟩
  | 12 => ⟨S8x8192x1024, .f32⟩
  | 13 => ⟨S_, .f32⟩
  | 14 => ⟨S8x8192x1024, .f32⟩
  | 15 => ⟨S8x8192x1024, .f32⟩
  | 16 => ⟨S8x8192x3, .f32⟩
  | 17 => ⟨S_, .f32⟩
  | 18 => ⟨S8x8192, .f32⟩
  | 19 => ⟨S8x8192x1, .f32⟩
  | 20 => ⟨S8x8192x1024, .f32⟩
  | 21 => ⟨S8x8192x1024, .f32⟩
  | 22 => ⟨S8x1024x3, .f32⟩
  | 23 => ⟨S_, .f32⟩
  | 24 => ⟨S8x1024, .f32⟩
  | 25 => ⟨S8x1x1024, .f32⟩
  | 26 => ⟨S8x8192x1024, .f32⟩
  | 27 => ⟨S8x8192x1024, .f32⟩
  | 28 => ⟨S8x8192x1024, .i32⟩
  | 29 => ⟨S8x8192x1024, .f32⟩
  | 30 => ⟨S8x8192x1024, .i32⟩
  | 31 => ⟨S8x8192x3, .i32⟩
  | 32 => ⟨S_, .i32⟩
  | 33 => ⟨S8x8192x3, .i32⟩
  | 34 => ⟨S8x8192x3, .i1⟩
  | 35 => ⟨S_, .i32⟩
  | 36 => ⟨S8x8192x3, .i32⟩
  | 37 => ⟨S8x8192x3, .i32⟩
  | 38 => ⟨S8x8192x3, .i32⟩
  | 39 => ⟨S8x8192x3x1, .i32⟩
  | 40 => ⟨S1, .i32⟩
  | 41 => ⟨S_, .i32⟩
  | 42 => ⟨S8x8192x3x1, .i32⟩
  | 43 => ⟨S8x8192x3x1, .i1⟩
  | 44 => ⟨S1x1x1x1, .i32⟩
  | 45 => ⟨S8x8192x3x1, .i32⟩
  | 46 => ⟨S8x8192x3x1, .i1⟩
  | 47 => ⟨S8x8192x3x1, .i1⟩
  | 48 => ⟨S_, .i1⟩
  | 49 => ⟨S8x8192x3, .i1⟩
  | 50 => ⟨S8x8192x3, .f32⟩
  | 51 => ⟨S_, .f32⟩
  | 52 => ⟨S8x8192x3, .f32⟩
  | 53 => ⟨S8x8192x3, .f32⟩
  | 54 => ⟨S_, .f32⟩
  | 55 => ⟨S8x8192x3, .f32⟩
  | 56 => ⟨S8x8192x3, .f32⟩
  | 57 => ⟨S_, .f32⟩
  | 58 => ⟨S8x8192x3, .f32⟩
  | 59 => ⟨S8x8192x3, .f32⟩
  | 60 => ⟨S_, .f32⟩
  | 61 => ⟨S8x8192, .f32⟩
  | 62 => ⟨S8x8192x1, .f32⟩
  | 63 => ⟨S8x8192x3, .f32⟩
  | 64 => ⟨S8x8192x3, .f32⟩
  | 65 => ⟨S_, .i32⟩
  | 66 => ⟨S8x8192x3, .i32⟩
  | 67 => ⟨S8x8192x3, .i1⟩
  | 68 => ⟨S_, .i32⟩
  | 69 => ⟨S8x8192x3, .i32⟩
  | 70 => ⟨S8x8192x3, .i32⟩
  | 71 => ⟨S8x8192x3, .i32⟩
  | 72 => ⟨S8x8192x3x1, .i32⟩
  | 73 => ⟨S8x8192x3x256, .f32⟩
  | 74 => ⟨S8x8192x3x1, .f32⟩
  | 75 => ⟨S8x8192x3x256, .f32⟩
  | 76 => ⟨S8x8192x3x256, .f32⟩
  | 77 => ⟨S_, .f32⟩
  | 78 => ⟨S8x8192x256, .f32⟩
  | 79 => ⟨S8x8192x384, .f32⟩
  | 80 => ⟨S8x384x8192, .f32⟩
  | 81 => ⟨S8x8192x256, .f32⟩
  | 82 => ⟨S8x256x8192, .f32⟩
  | 83 => ⟨S1x256x1, .f32⟩
  | 84 => ⟨S8x256x8192, .f32⟩
  | 85 => ⟨S8x256x8192, .f32⟩
  | 86 => ⟨S_, .f32⟩
  | 87 => ⟨S256, .f32⟩
  | 88 => ⟨S1x256x1, .f32⟩
  | 89 => ⟨S_, .f32⟩
  | 90 => ⟨S1x256x1, .f32⟩
  | 91 => ⟨S1x256x1, .f32⟩
  | 92 => ⟨S_, .i32⟩
  | 93 => ⟨S_, .f32⟩
  | 94 => ⟨S256, .f32⟩
  | 95 => ⟨S1x256x1, .f32⟩
  | 96 => ⟨S_, .f32⟩
  | 97 => ⟨S1x256x1, .f32⟩
  | 98 => ⟨S1x256x1, .f32⟩
  | 99 => ⟨S8x256x8192, .f32⟩
  | 100 => ⟨S8x256x8192, .f32⟩
  | 101 => ⟨S8x256x8192, .f32⟩
  | 102 => ⟨S_, .f32⟩
  | 103 => ⟨S_, .f32⟩
  | 104 => ⟨S_, .f32⟩
  | 105 => ⟨S_, .f32⟩
  | 106 => ⟨S256, .f32⟩
  | 107 => ⟨S1x256x1, .f32⟩
  | 108 => ⟨S1x256x1, .f32⟩
  | 109 => ⟨S1x256x1, .f32⟩
  | 110 => ⟨S_, .f32⟩
  | 111 => ⟨S_, .i1⟩
  | 112 => ⟨S_, .f32⟩
  | 113 => ⟨S_, .f32⟩
  | 114 => ⟨S1x256x1, .f32⟩
  | 115 => ⟨S1x256x1, .f32⟩
  | 116 => ⟨S8x256x8192, .f32⟩
  | 117 => ⟨S8x256x8192, .f32⟩
  | 118 => ⟨S_, .f32⟩
  | 119 => ⟨S1x256x1, .f32⟩
  | 120 => ⟨S1x256x1, .f32⟩
  | 121 => ⟨S1x256x1, .f32⟩
  | 122 => ⟨S8x256x8192, .f32⟩
  | 123 => ⟨S8x256x8192, .f32⟩
  | 124 => ⟨S1x256x1, .f32⟩
  | 125 => ⟨S8x256x8192, .f32⟩
  | 126 => ⟨S8x256x8192, .f32⟩
  | 127 => ⟨S1x256x1, .f32⟩
  | _ => ⟨S8x1024x3, .f32⟩

abbrev hbmTy0_1 (i : Nat) : BufTy := match i % 128 with
  | 0 => ⟨S8x256x8192, .f32⟩
  | 1 => ⟨S8x256x8192, .f32⟩
  | 2 => ⟨S_, .f32⟩
  | 3 => ⟨S8x256x8192, .f32⟩
  | 4 => ⟨S8x256x8192, .f32⟩
  | 5 => ⟨S8x8192x256, .f32⟩
  | 6 => ⟨S8x256x8192, .f32⟩
  | 7 => ⟨S1x256x1, .f32⟩
  | 8 => ⟨S8x256x8192, .f32⟩
  | 9 => ⟨S8x256x8192, .f32⟩
  | 10 => ⟨S_, .f32⟩
  | 11 => ⟨S256, .f32⟩
  | 12 => ⟨S1x256x1, .f32⟩
  | 13 => ⟨S_, .f32⟩
  | 14 => ⟨S1x256x1, .f32⟩
  | 15 => ⟨S1x256x1, .f32⟩
  | 16 => ⟨S_, .i32⟩
  | 17 => ⟨S_, .f32⟩
  | 18 => ⟨S256, .f32⟩
  | 19 => ⟨S1x256x1, .f32⟩
  | 20 => ⟨S_, .f32⟩
  | 21 => ⟨S1x256x1, .f32⟩
  | 22 => ⟨S1x256x1, .f32⟩
  | 23 => ⟨S8x256x8192, .f32⟩
  | 24 => ⟨S8x256x8192, .f32⟩
  | 25 => ⟨S8x256x8192, .f32⟩
  | 26 => ⟨S_, .f32⟩
  | 27 => ⟨S_, .f32⟩
  | 28 => ⟨S_, .f32⟩
  | 29 => ⟨S_, .f32⟩
  | 30 => ⟨S256, .f32⟩
  | 31 => ⟨S1x256x1, .f32⟩
  | 32 => ⟨S1x256x1, .f32⟩
  | 33 => ⟨S1x256x1, .f32⟩
  | 34 => ⟨S_, .f32⟩
  | 35 => ⟨S_, .i1⟩
  | 36 => ⟨S_, .f32⟩
  | 37 => ⟨S_, .f32⟩
  | 38 => ⟨S1x256x1, .f32⟩
  | 39 => ⟨S1x256x1, .f32⟩
  | 40 => ⟨S8x256x8192, .f32⟩
  | 41 => ⟨S8x256x8192, .f32⟩
  | 42 => ⟨S_, .f32⟩
  | 43 => ⟨S1x256x1, .f32⟩
  | 44 => ⟨S1x256x1, .f32⟩
  | 45 => ⟨S1x256x1, .f32⟩
  | 46 => ⟨S8x256x8192, .f32⟩
  | 47 => ⟨S8x256x8192, .f32⟩
  | 48 => ⟨S1x256x1, .f32⟩
  | 49 => ⟨S8x256x8192, .f32⟩
  | 50 => ⟨S8x256x8192, .f32⟩
  | 51 => ⟨S1x256x1, .f32⟩
  | 52 => ⟨S8x256x8192, .f32⟩
  | 53 => ⟨S8x256x8192, .f32⟩
  | 54 => ⟨S_, .f32⟩
  | 55 => ⟨S8x256x8192, .f32⟩
  | 56 => ⟨S8x256x8192, .f32⟩
  | _ => ⟨S8x1024x3, .f32⟩

abbrev hbmTy (i : Nat) : BufTy := match i / 128 with
  | 0 => hbmTy0_0 i
  | 1 => hbmTy0_1 i
  | _ => ⟨S8x1024x3, .f32⟩

abbrev bufTy : (tb : Table) → Fin (tcTables nBuf tb) → BufTy
  | .hbm, ⟨i, _⟩ => hbmTy i
  | _, _ => ⟨S8x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_call0_v0 : Ref sig .tc := ⟨.hbm, 28, rfl⟩
abbrev main_call0_v1_0 : Ref sig .tc := ⟨.hbm, 29, rfl⟩
abbrev main_v13 : Ref sig .tc := ⟨.hbm, 30, rfl⟩
abbrev main_v14 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_cst : Ref sig .tc := ⟨.hbm, 51, rfl⟩
abbrev main_call1_v14 : Ref sig .tc := ⟨.hbm, 52, rfl⟩
abbrev main_v15 : Ref sig .tc := ⟨.hbm, 53, rfl⟩
abbrev main_cst_2 : Ref sig .tc := ⟨.hbm, 54, rfl⟩
abbrev main_v16 : Ref sig .tc := ⟨.hbm, 55, rfl⟩
abbrev main_v17 : Ref sig .tc := ⟨.hbm, 56, rfl⟩
abbrev main_cst_3 : Ref sig .tc := ⟨.hbm, 57, rfl⟩
abbrev main_v18 : Ref sig .tc := ⟨.hbm, 58, rfl⟩
abbrev main_v19 : Ref sig .tc := ⟨.hbm, 59, rfl⟩
abbrev main_cst_4 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_c : Ref sig .tc := ⟨.hbm, 65, rfl⟩
abbrev main_v24 : Ref sig .tc := ⟨.hbm, 66, rfl⟩
abbrev main_v25 : Ref sig .tc := ⟨.hbm, 67, rfl⟩
abbrev main_c_5 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_cst_6 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_cst_7 : Ref sig .tc := ⟨.hbm, 86, rfl⟩
abbrev main_v42 : Ref sig .tc := ⟨.hbm, 87, rfl⟩
abbrev main_v43 : Ref sig .tc := ⟨.hbm, 88, rfl⟩
abbrev main_cst_8 : Ref sig .tc := ⟨.hbm, 89, rfl⟩
abbrev main_v44 : Ref sig .tc := ⟨.hbm, 90, rfl⟩
abbrev main_v45 : Ref sig .tc := ⟨.hbm, 91, rfl⟩
abbrev main_c_9 : Ref sig .tc := ⟨.hbm, 92, rfl⟩
abbrev main_call2_cst : Ref sig .tc := ⟨.hbm, 93, rfl⟩
abbrev main_call2_v0 : Ref sig .tc := ⟨.hbm, 94, rfl⟩
abbrev main_call2_v1 : Ref sig .tc := ⟨.hbm, 95, rfl⟩
abbrev main_call2_cst_0 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_call2_v5 : Ref sig .tc := ⟨.hbm, 100, rfl⟩
abbrev main_call2_v6 : Ref sig .tc := ⟨.hbm, 101, rfl⟩
abbrev main_call2_v7 : Ref sig .tc := ⟨.hbm, 102, rfl⟩
abbrev main_call2_cst_1 : Ref sig .tc := ⟨.hbm, 103, rfl⟩
abbrev main_call2_v8 : Ref sig .tc := ⟨.hbm, 104, rfl⟩
abbrev main_call2_cst_2 : Ref sig .tc := ⟨.hbm, 105, rfl⟩
abbrev main_call2_v9 : Ref sig .tc := ⟨.hbm, 106, rfl⟩
abbrev main_call2_v10 : Ref sig .tc := ⟨.hbm, 107, rfl⟩
abbrev main_call2_v11 : Ref sig .tc := ⟨.hbm, 108, rfl⟩
abbrev main_call2_v12 : Ref sig .tc := ⟨.hbm, 109, rfl⟩
abbrev main_call2_cst_3 : Ref sig .tc := ⟨.hbm, 110, rfl⟩
abbrev main_call2_v13 : Ref sig .tc := ⟨.hbm, 111, rfl⟩
abbrev main_call2_cst_4 : Ref sig .tc := ⟨.hbm, 112, rfl⟩
abbrev main_call2_call0_v0 : Ref sig .tc := ⟨.hbm, 113, rfl⟩
abbrev main_call2_call0_v1 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_cst_10 : Ref sig .tc := ⟨.hbm, 118, rfl⟩
abbrev main_v49 : Ref sig .tc := ⟨.hbm, 119, rfl⟩
abbrev main_v50 : Ref sig .tc := ⟨.hbm, 120, rfl⟩
abbrev main_v51 : Ref sig .tc := ⟨.hbm, 121, rfl⟩
abbrev main_v52 : Ref sig .tc := ⟨.hbm, 122, rfl⟩
abbrev main_v53 : Ref sig .tc := ⟨.hbm, 123, rfl⟩
abbrev main_v54 : Ref sig .tc := ⟨.hbm, 124, rfl⟩
abbrev main_v55 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_call3_cst : Ref sig .tc := ⟨.hbm, 130, rfl⟩
abbrev main_call3_v0 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_cst_11 : Ref sig .tc := ⟨.hbm, 138, rfl⟩
abbrev main_v66 : Ref sig .tc := ⟨.hbm, 139, rfl⟩
abbrev main_v67 : Ref sig .tc := ⟨.hbm, 140, rfl⟩
abbrev main_cst_12 : Ref sig .tc := ⟨.hbm, 141, rfl⟩
abbrev main_v68 : Ref sig .tc := ⟨.hbm, 142, rfl⟩
abbrev main_v69 : Ref sig .tc := ⟨.hbm, 143, rfl⟩
abbrev main_c_13 : Ref sig .tc := ⟨.hbm, 144, rfl⟩
abbrev main_call4_cst : Ref sig .tc := ⟨.hbm, 145, rfl⟩
abbrev main_call4_v0 : Ref sig .tc := ⟨.hbm, 146, rfl⟩
abbrev main_call4_v1 : Ref sig .tc := ⟨.hbm, 147, rfl⟩
abbrev main_call4_cst_0 : Ref sig .tc := ⟨.hbm, 148, rfl⟩
abbrev main_call4_v2 : Ref sig .tc := ⟨.hbm, 149, rfl⟩
abbrev main_call4_v3 : Ref sig .tc := ⟨.hbm, 150, rfl⟩
abbrev main_call4_v4 : Ref sig .tc := ⟨.hbm, 151, rfl⟩
abbrev main_call4_v5 : Ref sig .tc := ⟨.hbm, 152, rfl⟩
abbrev main_call4_v6 : Ref sig .tc := ⟨.hbm, 153, rfl⟩
abbrev main_call4_v7 : Ref sig .tc := ⟨.hbm, 154, rfl⟩
abbrev main_call4_cst_1 : Ref sig .tc := ⟨.hbm, 155, rfl⟩
abbrev main_call4_v8 : Ref sig .tc := ⟨.hbm, 156, rfl⟩
abbrev main_call4_cst_2 : Ref sig .tc := ⟨.hbm, 157, rfl⟩
abbrev main_call4_v9 : Ref sig .tc := ⟨.hbm, 158, rfl⟩
abbrev main_call4_v10 : Ref sig .tc := ⟨.hbm, 159, rfl⟩
abbrev main_call4_v11 : Ref sig .tc := ⟨.hbm, 160, rfl⟩
abbrev main_call4_v12 : Ref sig .tc := ⟨.hbm, 161, rfl⟩
abbrev main_call4_cst_3 : Ref sig .tc := ⟨.hbm, 162, rfl⟩
abbrev main_call4_v13 : Ref sig .tc := ⟨.hbm, 163, rfl⟩
abbrev main_call4_cst_4 : Ref sig .tc := ⟨.hbm, 164, rfl⟩
abbrev main_call4_call0_v0 : Ref sig .tc := ⟨.hbm, 165, rfl⟩
abbrev main_call4_call0_v1 : Ref sig .tc := ⟨.hbm, 166, rfl⟩
abbrev main_v70 : Ref sig .tc := ⟨.hbm, 167, rfl⟩
abbrev main_v71 : Ref sig .tc := ⟨.hbm, 168, rfl⟩
abbrev main_v72 : Ref sig .tc := ⟨.hbm, 169, rfl⟩
abbrev main_cst_14 : Ref sig .tc := ⟨.hbm, 170, rfl⟩
abbrev main_v73 : Ref sig .tc := ⟨.hbm, 171, rfl⟩
abbrev main_v74 : Ref sig .tc := ⟨.hbm, 172, rfl⟩
abbrev main_v75 : Ref sig .tc := ⟨.hbm, 173, rfl⟩
abbrev main_v76 : Ref sig .tc := ⟨.hbm, 174, rfl⟩
abbrev main_v77 : Ref sig .tc := ⟨.hbm, 175, rfl⟩
abbrev main_v78 : Ref sig .tc := ⟨.hbm, 176, rfl⟩
abbrev main_v79 : Ref sig .tc := ⟨.hbm, 177, rfl⟩
abbrev main_v80 : Ref sig .tc := ⟨.hbm, 178, rfl⟩
abbrev main_v81 : Ref sig .tc := ⟨.hbm, 179, rfl⟩
abbrev main_v82 : Ref sig .tc := ⟨.hbm, 180, rfl⟩
abbrev main_v83 : Ref sig .tc := ⟨.hbm, 181, rfl⟩
abbrev main_call5_cst : Ref sig .tc := ⟨.hbm, 182, rfl⟩
abbrev main_call5_v0 : Ref sig .tc := ⟨.hbm, 183, rfl⟩
abbrev main_v84 : Ref sig .tc := ⟨.hbm, 184, rfl⟩

abbrev nD : Nat := 1
abbrev τ : Topo := Topo.v7x

variable {F : FTy → Type} [FloatOps F]
-- ==== Proof.Near.lean ====
/- The three nearest known points of a query, two ways: by taking the least remaining distance three times over (what the
   kernel does, on a shortened list of candidates), and by a count of the points at most as far away (what both sides are
   compared through). Mathematics only: no program is mentioned here. -/
module

public import Idealize.ShloMosaic.PureOps.Ideal
public import Idealize.ShloMosaic.PureOps.Ideal.Laws
public import Idealize.ShloMosaic.Lib.SortFacts
public import Idealize.ShloMosaic.Lib.SortPrefix

@[expose] public section

noncomputable section

open Idealize.ShloMosaic
open scoped BigOperators

namespace Cert.Near

variable {ι κ : Type} [Fintype ι] [Fintype κ]

/-- How many entries of `u` are at most `θ`. -/
def cnt (u : κ → EReal) (θ : EReal) : ℕ := (Finset.univ.filter fun k => u k ≤ θ).card

/-- The number of entries at most a bound grows with the bound. -/
theorem cnt_mono (u : κ → EReal) {a b : EReal} (h : a ≤ b) : cnt u a ≤ cnt u b :=
  Finset.card_le_card fun k hk => by
    simp only [Finset.mem_filter, Finset.mem_univ, true_and] at hk ⊢; exact hk.trans h

/-- Fewer entries at most `a` than at most `b`: some entry lies above `a` and not above `b`. -/
theorem exists_between (u : κ → EReal) {a b : EReal} (h : cnt u a < cnt u b) : ∃ k, a < u k ∧ u k ≤ b := by
  by_contra hc
  push Not at hc
  refine absurd (Finset.card_le_card (s := Finset.univ.filter fun k => u k ≤ b) (t := Finset.univ.filter fun k => u k ≤ a) fun k hk => ?_) (not_le.mpr h)
  simp only [Finset.mem_filter, Finset.mem_univ, true_and] at hk ⊢
  by_contra h'
  exact absurd hk (not_le.mpr (hc k (not_le.mp h')))

/-- An entry above `a` and not above `b`: strictly more entries are at most `b`. -/
theorem cnt_lt (u : κ → EReal) {a b : EReal} (k : κ) (h1 : a < u k) (h2 : u k ≤ b) : cnt u a < cnt u b := by
  refine Finset.card_lt_card (Finset.ssubset_iff_subset_ne.mpr ⟨fun i hi => ?_, fun he => ?_⟩)
  · simp only [Finset.mem_filter, Finset.mem_univ, true_and] at hi ⊢
    exact hi.trans (h1.le.trans h2)
  · have : k ∈ Finset.univ.filter fun i => u i ≤ a := by rw [he]; simp [h2]
    simp only [Finset.mem_filter, Finset.mem_univ, true_and] at this
    exact absurd this (not_le.mpr h1)

/-- The entries at most `m`, when none lies strictly between `θ` and `m`: those at most `θ`, and those equal to `m`. -/
theorem cnt_eq_add (u : κ → EReal) {θ m : EReal} (hθ : θ < m) (h : ∀ k, θ < u k → m ≤ u k) :
    cnt u m = cnt u θ + (Finset.univ.filter fun k => u k = m).card := by
  classical
  unfold cnt
  rw [← Finset.card_union_of_disjoint]
  · congr 1
    ext k
    simp only [Finset.mem_filter, Finset.mem_univ, true_and, Finset.mem_union]
    constructor
    · intro hk
      rcases le_or_gt (u k) θ with h' | h'
      · exact Or.inl h'
      · exact Or.inr (le_antisymm hk (h k h'))
    · rintro (hk | hk)
      · exact hk.trans hθ.le
      · exact hk.le
  · rw [Finset.disjoint_left]
    intro k hk hk'
    simp only [Finset.mem_filter, Finset.mem_univ, true_and] at hk hk'
    rw [hk'] at hk
    exact absurd hk (not_le.mpr hθ)

/-- How many of the distances `d` are at most `θ`. -/
abbrev cntR (d : ι → ℝ) (θ : EReal) : ℕ := cnt (fun s => (d s : EReal)) θ

/-- One candidate list during the search: the candidates left, how many more points may be taken, the sum of inverse
    distances so far, and the last distance taken. -/
structure State (κ : Type) where
  u : κ → EReal
  slots : EReal
  norm : EReal
  thr : EReal

/-- The least candidate left. -/
def least (u : κ → EReal) : EReal := (Finset.univ : Finset κ).fold min ⊤ u

/-- How many candidates equal the least, but no more than may still be taken. -/
def taken (p : State κ) : EReal := min (∑ k, if p.u k = least p.u then (1 : EReal) else 0) p.slots

/-- One round: take the least candidate (with its repeats), while anything may be taken. -/
def step (ε : EReal) (p : State κ) : State κ where
  u k := if p.u k = least p.u ∧ 0 < p.slots then ⊤ else p.u k
  slots := p.slots - taken p
  norm := p.norm + Ideal.div 1 (least p.u + ε) * taken p
  thr := if 0 < p.slots then least p.u else p.thr

/-- The search at its start. -/
def start (u : κ → EReal) : State κ := ⟨u, ((3 : ℝ) : EReal), 0, ⊤⟩

/-- After some rounds: everything at most `θ` has been taken, that is at most three points, and the sum is over them. -/
structure Inv (d : ι → ℝ) (u : κ → EReal) (ε : ℝ) (θ : EReal) (p : State κ) : Prop where
  hu : ∀ k, p.u k = if u k ≤ θ then ⊤ else u k
  hc : cntR d θ ≤ 3
  hs : p.slots = ((3 - (cntR d θ : ℝ) : ℝ) : EReal)
  hn : p.norm = ((∑ s ∈ Finset.univ.filter (fun s => (d s : EReal) ≤ θ), (1 / (d s + ε)) : ℝ) : EReal)
  ht : θ = ⊥ ∨ p.thr = θ

/-- A quotient of reals by a nonzero real is the real quotient. -/
theorem div_coe (x y : ℝ) (hy : y ≠ 0) : Ideal.div (x : EReal) (y : EReal) = ((x / y : ℝ) : EReal) := by
  unfold Ideal.div
  rw [if_neg (by simpa using hy), div_eq_mul_inv, EReal.coe_mul, EReal.coe_inv]

/-- A sum of ones over the candidates a condition picks, as a number. -/
theorem sum_ones (q : κ → Prop) [DecidablePred q] :
    (∑ k, if q k then (1 : EReal) else 0) = (((Finset.univ.filter q).card : ℝ) : EReal) := by
  rw [Finset.sum_ite, Finset.sum_const_zero, add_zero, Finset.sum_const, nsmul_one]
  rfl

/-- A finite sum of reals is the real sum. -/
theorem coe_sum {σ : Type} (s : Finset σ) (f : σ → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The invariant holds of the starting state. -/
theorem start_inv (d : ι → ℝ) (u : κ → EReal) (ε : ℝ) (hb : ∀ k, ⊥ < u k) : Inv d u ε ⊥ (start u) := by
  have h0 : (Finset.univ.filter fun s => ((d s : ℝ) : EReal) ≤ ⊥) = ∅ := by
    ext s; simp
  have hc : cntR d ⊥ = 0 := by unfold cntR cnt; rw [h0]; rfl
  refine ⟨fun k => ?_, by omega, ?_, ?_, Or.inl rfl⟩
  · rw [if_neg (not_le.mpr (hb k))]; rfl
  · rw [hc]; simp [start]
  · rw [h0]; simp [start]

/-- One round keeps the invariant, at a threshold where either three points had been taken already (nothing changes) or
    at least one more has. -/
theorem step_inv (d : ι → ℝ) (u : κ → EReal) (ε : ℝ) (hpos : ∀ s, 0 < d s + ε)
    (hU : ∀ θ : EReal, cntR d θ ≤ 3 → cnt u θ = cntR d θ)
    (τ : ℝ) (hτ : cntR d τ = 3)
    {θ : EReal} {p : State κ} (h : Inv d u ε θ p) :
    ∃ θ', Inv d u ε θ' (step ε p) ∧
      (cntR d θ = 3 → cntR d θ' = 3) ∧
      (cntR d θ < 3 → cntR d θ < cntR d θ') := by
  classical
  rcases Nat.lt_or_ge (cntR d θ) 3 with hlt | hge
  · -- a point is taken
    have hslots : 0 < p.slots := by
      rw [h.hs, ← EReal.coe_zero, EReal.coe_lt_coe_iff]
      have : ((cntR d θ : ℕ) : ℝ) < 3 := by exact_mod_cast hlt
      linarith
    -- some candidate lies above `θ` and not above `τ`
    obtain ⟨k0, hk0, hk0'⟩ := exists_between u (a := θ) (b := τ) (by rw [hU _ h.hc, hU _ hτ.le, hτ]; exact hlt)
    -- the least masked candidate
    obtain ⟨m, hm⟩ : ∃ m, m = least p.u := ⟨_, rfl⟩
    have hle : ∀ k, m ≤ p.u k := fun k => by
      rw [hm]; exact Finset.inf_le (f := p.u) (Finset.mem_univ k)
    have hmτ : m ≤ τ := by
      refine (hle k0).trans ?_
      rw [h.hu, if_neg (not_le.mpr hk0)]; exact hk0'
    have hmtop : m ≠ ⊤ := ne_of_lt (lt_of_le_of_lt hmτ (EReal.coe_lt_top τ))
    obtain ⟨k1, _, hk1⟩ := Finset.exists_mem_eq_inf (Finset.univ : Finset κ) ⟨k0, Finset.mem_univ _⟩ p.u
    have hk1 : m = p.u k1 := by rw [hm]; exact hk1
    have hk1' : θ < u k1 ∧ m = u k1 := by
      rw [h.hu] at hk1
      by_cases hq : u k1 ≤ θ
      · rw [if_pos hq] at hk1; exact absurd hk1 hmtop
      · rw [if_neg hq] at hk1; exact ⟨not_le.mp hq, hk1⟩
    have hθm : θ < m := by rw [hk1'.2]; exact hk1'.1
    have hmin : ∀ k, θ < u k → m ≤ u k := fun k hk => by
      have := hle k; rwa [h.hu, if_neg (not_le.mpr hk)] at this
    have hcm3 : cntR d m ≤ 3 := hτ ▸ cnt_mono _ hmτ
    have heq : ∀ k, p.u k = m ↔ u k = m := fun k => by
      rw [h.hu]
      by_cases hq : u k ≤ θ
      · rw [if_pos hq]
        exact ⟨fun he => absurd he.symm hmtop, fun he => absurd (he ▸ hq) (not_le.mpr hθm)⟩
      · rw [if_neg hq]
    have hcu := cnt_eq_add u hθm hmin
    rw [hU _ hcm3, hU _ h.hc] at hcu
    have hdmin : ∀ s, θ < (d s : EReal) → m ≤ (d s : EReal) := fun s hs => by
      by_contra hlt'
      have hlt' := not_le.mp hlt'
      have h3 : cntR d (d s) ≤ 3 := (cnt_mono _ hlt'.le).trans hcm3
      have h4 : cntR d θ < cntR d (d s) := cnt_lt (fun s => (d s : EReal)) s hs le_rfl
      obtain ⟨k, hk, hk'⟩ := exists_between u (a := θ) (b := d s) (by rw [hU _ h.hc, hU _ h3]; exact h4)
      exact absurd (hmin k hk) (not_le.mpr (lt_of_le_of_lt hk' hlt'))
    have hcd : cntR d m = cntR d θ + (Finset.univ.filter fun s => (d s : EReal) = m).card := cnt_eq_add (fun s => (d s : EReal)) hθm hdmin
    have htaken : taken p = (((cntR d m : ℝ) - cntR d θ : ℝ) : EReal) := by
      unfold taken
      rw [← hm, sum_ones]
      have : (Finset.univ.filter fun k => p.u k = m) = Finset.univ.filter fun k => u k = m :=
        Finset.filter_congr fun k _ => heq k
      rw [this, h.hs]
      have hcu' : ((cntR d m : ℕ) : ℝ) = cntR d θ + ((Finset.univ.filter fun k => u k = m).card : ℝ) := by exact_mod_cast hcu
      have h3 : ((cntR d m : ℕ) : ℝ) ≤ 3 := by exact_mod_cast hcm3
      rw [min_eq_left (EReal.coe_le_coe_iff.mpr (by linarith))]
      congr 1; linarith
    obtain ⟨mr, hmr⟩ : ∃ mr : ℝ, m = (mr : EReal) := by
      lift m to ℝ using ⟨hmtop, ne_of_gt (lt_of_le_of_lt bot_le hθm)⟩
      exact ⟨m, rfl⟩
    refine ⟨m, ⟨fun k => ?_, hcm3, ?_, ?_, Or.inr ?_⟩, fun h3 => absurd h3 (by omega), fun _ => ?_⟩
    · show (if p.u k = least p.u ∧ 0 < p.slots then ⊤ else p.u k) = _
      rw [← hm]
      by_cases hq : u k ≤ m
      · rw [if_pos hq]
        by_cases hq' : u k ≤ θ
        · by_cases hx : p.u k = m ∧ 0 < p.slots
          · rw [if_pos hx]
          · rw [if_neg hx, h.hu, if_pos hq']
        · rw [if_pos ⟨(heq k).mpr (le_antisymm hq (hmin k (not_le.mp hq'))), hslots⟩]
      · rw [if_neg hq, if_neg fun hx => hq ((heq k).mp hx.1).le, h.hu,
          if_neg fun hx => hq (hx.trans hθm.le)]
    · show p.slots - taken p = _
      rw [htaken, h.hs, ← EReal.coe_sub]
      congr 1; ring
    · show p.norm + Ideal.div 1 (least p.u + ε) * taken p = _
      have hsplit : (Finset.univ.filter fun s => (d s : EReal) ≤ m)
          = (Finset.univ.filter fun s => (d s : EReal) ≤ θ) ∪ (Finset.univ.filter fun s => (d s : EReal) = m) := by
        ext s
        simp only [Finset.mem_filter, Finset.mem_univ, true_and, Finset.mem_union]
        constructor
        · intro hk
          rcases le_or_gt ((d s : EReal)) θ with h' | h'
          · exact Or.inl h'
          · exact Or.inr (le_antisymm hk (hdmin s h'))
        · rintro (hk | hk)
          · exact hk.trans hθm.le
          · exact hk.le
      have hdisj : Disjoint (Finset.univ.filter fun s => (d s : EReal) ≤ θ) (Finset.univ.filter fun s => (d s : EReal) = m) := by
        rw [Finset.disjoint_left]
        intro k hk hk'
        simp only [Finset.mem_filter, Finset.mem_univ, true_and] at hk hk'
        rw [hk'] at hk
        exact absurd hk (not_le.mpr hθm)
      -- the least is some point's distance
      have hcard : ((Finset.univ.filter fun s => (d s : EReal) = m).card : ℝ) = (cntR d m : ℝ) - cntR d θ := by
        have : ((cntR d m : ℕ) : ℝ) = cntR d θ + ((Finset.univ.filter fun s => (d s : EReal) = m).card : ℝ) := by exact_mod_cast hcd
        linarith
      have hne : mr + ε ≠ 0 := by
        have hpos' : 0 < (Finset.univ.filter fun s => (d s : EReal) = m).card := by
          have hk : 0 < (Finset.univ.filter fun k => u k = m).card :=
            Finset.card_pos.mpr ⟨k1, by simp [hk1'.2]⟩
          omega
        obtain ⟨s, hs⟩ := Finset.card_pos.mp hpos'
        simp only [Finset.mem_filter, Finset.mem_univ, true_and] at hs
        rw [hmr, EReal.coe_eq_coe_iff] at hs
        rw [← hs]; exact (hpos s).ne'
      rw [← hm, htaken, hsplit, Finset.sum_union hdisj, h.hn, hmr, ← EReal.coe_add, ← EReal.coe_one, div_coe _ _ hne,
        ← EReal.coe_mul, ← EReal.coe_add]
      congr 2
      rw [← hmr, ← hcard, Finset.sum_congr rfl (g := fun _ => 1 / (mr + ε)), Finset.sum_const, nsmul_eq_mul, mul_comm]
      intro s hs
      simp only [Finset.mem_filter, Finset.mem_univ, true_and] at hs
      rw [hmr, EReal.coe_eq_coe_iff] at hs
      rw [hs]
    · show (if 0 < p.slots then least p.u else p.thr) = m
      rw [if_pos hslots, ← hm]
    · have hk : 0 < (Finset.univ.filter fun k => u k = m).card := Finset.card_pos.mpr ⟨k1, by simp [hk1'.2]⟩
      omega
  · -- nothing more is taken
    have h3 : cntR d θ = 3 := le_antisymm h.hc hge
    have hs0 : p.slots = 0 := by rw [h.hs, h3]; norm_num
    have ht0 : taken p = 0 := by
      unfold taken; rw [hs0, sum_ones]
      exact min_eq_right (by exact_mod_cast Nat.zero_le _)
    have hst : step ε p = p := by
      cases p
      unfold step
      rw [ht0]
      simp only at hs0
      subst hs0
      simp
    refine ⟨θ, by rw [hst]; exact h, fun _ => h3, fun h' => absurd h3 (by omega)⟩

/-- After three rounds exactly three points are within the last distance taken, and the sum is over them. -/
theorem search (d : ι → ℝ) (u : κ → EReal) (ε : ℝ) (hpos : ∀ s, 0 < d s + ε) (hb : ∀ k, ⊥ < u k)
    (hU : ∀ θ : EReal, cntR d θ ≤ 3 → cnt u θ = cntR d θ)
    (τ : ℝ) (hτ : cntR d τ = 3) :
    cntR d (step ε (step ε (step ε (start u)))).thr = 3 ∧
    (step ε (step ε (step ε (start u)))).norm
      = ((∑ s ∈ Finset.univ.filter (fun s => (d s : EReal) ≤ (step ε (step ε (step ε (start u)))).thr), (1 / (d s + ε)) : ℝ) : EReal) := by
  obtain ⟨θ1, h1, a1, b1⟩ := step_inv d u ε hpos hU τ hτ (start_inv d u ε hb)
  obtain ⟨θ2, h2, a2, b2⟩ := step_inv d u ε hpos hU τ hτ h1
  obtain ⟨θ3, h3, a3, b3⟩ := step_inv d u ε hpos hU τ hτ h2
  have c0 : cntR d ⊥ = 0 := by
    have h0 : (Finset.univ.filter fun s => ((d s : ℝ) : EReal) ≤ ⊥) = ∅ := by ext s; simp
    unfold cntR cnt; rw [h0]; rfl
  have c3 : cntR d θ3 = 3 := by
    have := h1.hc; have := h2.hc; have := h3.hc
    omega
  have hne : θ3 ≠ ⊥ := fun he => by
    rw [he] at c3; omega
  have ht := h3.ht.resolve_left hne
  rw [ht]
  exact ⟨c3, h3.hn⟩

/-- The points with at most three points (themselves among them) at most as far away: the nearest three, where three
    points are set apart from the rest. -/
def near (d : ι → ℝ) : Finset ι := Finset.univ.filter fun s => cntR d (d s) ≤ 3

/-- If three points lie within `θ`, they are the nearest three. -/
theorem near_eq (d : ι → ℝ) (θ : EReal) (hθ : cntR d θ = 3) :
    Finset.univ.filter (fun s => (d s : EReal) ≤ θ) = near d := by
  ext s
  simp only [near, Finset.mem_filter, Finset.mem_univ, true_and]
  constructor
  · intro h; exact hθ ▸ cnt_mono _ h
  · intro h
    by_contra h'
    have : cntR d θ < cntR d (d s) := cnt_lt (fun s => (d s : EReal)) s (not_le.mp h') le_rfl
    omega

/-- If three points lie within `θ`, there is a nearest point. -/
theorem near_nonempty (d : ι → ℝ) (θ : EReal) (hθ : cntR d θ = 3) : (near d).Nonempty := by
  rw [← near_eq d θ hθ, ← Finset.card_pos]
  have h : (Finset.univ.filter fun s => (d s : EReal) ≤ θ).card = 3 := hθ
  rw [h]; norm_num

/-! ## The shortened candidate list -/

/-- Whether an entry is at most `θ`, as a count. -/
def le1 (x θ : EReal) : ℕ := if x ≤ θ then 1 else 0

/-- The lesser of two is at most `θ` if one of them is. -/
theorem le1_min (a b θ : EReal) : le1 (min a b) θ = max (le1 a θ) (le1 b θ) := by
  unfold le1; by_cases h1 : a ≤ θ <;> by_cases h2 : b ≤ θ <;> simp [h1, h2]

/-- The greater of two is at most `θ` if both of them are. -/
theorem le1_max (a b θ : EReal) : le1 (max a b) θ = min (le1 a θ) (le1 b θ) := by
  unfold le1; by_cases h1 : a ≤ θ <;> by_cases h2 : b ≤ θ <;> simp [h1, h2]

/-- The indicator of being at most `θ` is at most one. -/
theorem le1_le (a θ : EReal) : le1 a θ ≤ 1 := by unfold le1; split <;> omega

/-- The number of entries at most `θ` is the sum of their indicators. -/
theorem cnt_eq_sum (u : κ → EReal) (θ : EReal) : cnt u θ = ∑ k, le1 (u k) θ := by
  unfold cnt le1; rw [Finset.card_filter]

/-- The lesser and the greater of two. -/
def lo2 (f : ℕ → EReal) (j : ℕ) : EReal := min (f j) (f (j + 512))
def hi2 (f : ℕ → EReal) (j : ℕ) : EReal := max (f j) (f (j + 512))

/-- The three least of four entries at stride 256, in order: the first, second and third. -/
def a4 (f : ℕ → EReal) (j : ℕ) : EReal := min (lo2 f j) (lo2 f (j + 256))
def m4 (f : ℕ → EReal) (j : ℕ) : EReal := max (lo2 f j) (lo2 f (j + 256))
def n4 (f : ℕ → EReal) (j : ℕ) : EReal := min (hi2 f j) (hi2 f (j + 256))
def b4 (f : ℕ → EReal) (j : ℕ) : EReal := min (m4 f j) (n4 f j)
def c4 (f : ℕ → EReal) (j : ℕ) : EReal := max (m4 f j) (n4 f j)

/-- The three least of eight entries at stride 128, in order: the first, second and third. -/
def a8 (f : ℕ → EReal) (j : ℕ) : EReal := min (a4 f j) (a4 f (j + 128))
def m8 (f : ℕ → EReal) (j : ℕ) : EReal := max (a4 f j) (a4 f (j + 128))
def n8 (f : ℕ → EReal) (j : ℕ) : EReal := min (b4 f j) (b4 f (j + 128))
def b8 (f : ℕ → EReal) (j : ℕ) : EReal := min (m8 f j) (n8 f j)
def c8 (f : ℕ → EReal) (j : ℕ) : EReal := min (max (m8 f j) (n8 f j)) (min (c4 f j) (c4 f (j + 128)))

/-- Of eight entries, as many of the three kept are at most `θ` as of the eight, up to three. -/
theorem kept (f : ℕ → EReal) (j : ℕ) (θ : EReal) :
    le1 (a8 f j) θ + le1 (b8 f j) θ + le1 (c8 f j) θ
      = min 3 (∑ g : Fin 8, le1 (f (j + 128 * g.val)) θ) := by
  have hs : ∑ g : Fin 8, le1 (f (j + 128 * g.val)) θ
      = le1 (f j) θ + le1 (f (j + 128)) θ + le1 (f (j + 256)) θ + le1 (f (j + 128 + 256)) θ
        + le1 (f (j + 512)) θ + le1 (f (j + 128 + 512)) θ + le1 (f (j + 256 + 512)) θ + le1 (f (j + 128 + 256 + 512)) θ := by
    simp only [Fin.sum_univ_eight]
    rfl
  rw [hs]
  simp only [a8, b8, c8, m8, n8, a4, b4, c4, m4, n4, lo2, hi2, le1_min, le1_max]
  have h0 := le1_le (f j) θ
  have h1 := le1_le (f (j + 128)) θ
  have h2 := le1_le (f (j + 256)) θ
  have h3 := le1_le (f (j + 128 + 256)) θ
  have h4 := le1_le (f (j + 512)) θ
  have h5 := le1_le (f (j + 128 + 512)) θ
  have h6 := le1_le (f (j + 256 + 512)) θ
  have h7 := le1_le (f (j + 128 + 256 + 512)) θ
  generalize le1 (f j) θ = x0 at *
  generalize le1 (f (j + 128)) θ = x1 at *
  generalize le1 (f (j + 256)) θ = x2 at *
  generalize le1 (f (j + 128 + 256)) θ = x3 at *
  generalize le1 (f (j + 512)) θ = x4 at *
  generalize le1 (f (j + 128 + 512)) θ = x5 at *
  generalize le1 (f (j + 256 + 512)) θ = x6 at *
  generalize le1 (f (j + 128 + 256 + 512)) θ = x7 at *
  clear hs
  interval_cases x0 <;> interval_cases x1 <;> interval_cases x2 <;> interval_cases x3 <;> interval_cases x4 <;>
    interval_cases x5 <;> interval_cases x6 <;> interval_cases x7 <;> rfl

/-- The candidate list of a row: the first, the second and the third of each of 128 groups of eight. -/
def short (f : ℕ → EReal) (k : Fin 384) : EReal :=
  if k.val < 128 then a8 f k.val else if k.val < 256 then b8 f (k.val - 128) else c8 f (k.val - 256)

/-- A sum over 384 columns, in three parts of 128. -/
theorem sum_short {M : Type} [AddCommMonoid M] (g : Fin 384 → M) :
    ∑ k, g k = ∑ j : Fin 128, (g ⟨j.val, by omega⟩ + g ⟨j.val + 128, by omega⟩ + g ⟨j.val + 256, by omega⟩) := by
  have e1 : ∑ k : Fin 384, g k = ∑ k : Fin (128 + 128 + 128), g k := rfl
  rw [e1, Fin.sum_univ_add, Fin.sum_univ_add, ← Finset.sum_add_distrib, ← Finset.sum_add_distrib]
  refine Finset.sum_congr rfl fun j _ => ?_
  have h2 : (Fin.natAdd (128 + 128) j : Fin (128 + 128 + 128)) = ⟨j.val + 256, by omega⟩ := Fin.ext (Nat.add_comm _ _)
  have h1 : (Fin.castAdd 128 (Fin.natAdd 128 j) : Fin (128 + 128 + 128)) = ⟨j.val + 128, by omega⟩ := Fin.ext (Nat.add_comm _ _)
  rw [h1, h2]
  rfl

/-- A sum over 1024 entries, in 128 groups of eight at stride 128. -/
theorem sum_groups {M : Type} [AddCommMonoid M] (g : ℕ → M) :
    ∑ s : Fin 1024, g s.val = ∑ j : Fin 128, ∑ q : Fin 8, g (j.val + 128 * q.val) := by
  rw [Finset.sum_comm, ← Fintype.sum_prod_type', ← Equiv.sum_comp (finProdFinEquiv (m := 8) (n := 128))]
  rfl

/-- The candidate list counts as the row does, wherever the row counts at most three. -/
theorem cnt_short (f : ℕ → EReal) (θ : EReal) (h : cnt (fun s : Fin 1024 => f s.val) θ ≤ 3) :
    cnt (short f) θ = cnt (fun s : Fin 1024 => f s.val) θ := by
  rw [cnt_eq_sum, cnt_eq_sum, sum_short] at *
  rw [sum_groups (fun s => le1 (f s) θ)] at *
  refine Finset.sum_congr rfl fun j _ => ?_
  have hj := j.isLt
  have h1 : short f ⟨j.val, by omega⟩ = a8 f j.val := by unfold short; rw [if_pos (by exact hj)]
  have h2 : short f ⟨j.val + 128, by omega⟩ = b8 f j.val := by
    unfold short; simp only; rw [if_neg (by omega), if_pos (by omega), Nat.add_sub_cancel]
  have h3 : short f ⟨j.val + 256, by omega⟩ = c8 f j.val := by
    unfold short; simp only; rw [if_neg (by omega), if_neg (by omega), Nat.add_sub_cancel]
  rw [h1, h2, h3, kept, min_eq_right]
  exact (Finset.single_le_sum (f := fun j : Fin 128 => ∑ q : Fin 8, le1 (f (j.val + 128 * q.val)) θ) (fun _ _ => Nat.zero_le _) (Finset.mem_univ j)).trans h

/-- The entries kept lie above `⊥` if all entries do. -/
theorem short_bot (f : ℕ → EReal) (hf : ∀ j, ⊥ < f j) (k : Fin 384) : ⊥ < short f k := by
  unfold short
  simp only [a8, b8, c8, m8, n8, a4, b4, c4, m4, n4, lo2, hi2]
  split
  · simp [hf]
  · split <;> simp [hf]

/-! ## The sorted row -/

/-- In a sorted row whose third entry is below its fourth, exactly the first three positions are at most the third entry. -/
theorem cnt_sorted {n : ℕ} (hn : 4 ≤ n) (d : Fin n → ℝ) (σ : Fin n → Fin n) (hσ : Function.Bijective σ)
    (hmono : ∀ i j : Fin n, i ≤ j → d (σ i) ≤ d (σ j))
    (hsep : d (σ ⟨2, by omega⟩) < d (σ ⟨3, by omega⟩)) :
    (Finset.univ.filter fun s => ((d s : ℝ) : EReal) ≤ (d (σ ⟨2, by omega⟩) : EReal))
      = (Finset.univ : Finset (Fin 3)).image (fun k => σ ⟨k.val, by omega⟩) := by
  ext s
  simp only [Finset.mem_filter, Finset.mem_univ, true_and, Finset.mem_image, EReal.coe_le_coe_iff]
  obtain ⟨i, rfl⟩ := hσ.2 s
  constructor
  · intro h
    have hi : i.val < 3 := by
      by_contra hc
      have := hmono ⟨3, by omega⟩ i (by show (3 : ℕ) ≤ i.val; omega)
      linarith
    exact ⟨⟨i.val, hi⟩, rfl⟩
  · rintro ⟨k, hk⟩
    rw [← hk]
    exact hmono _ _ (by show k.val ≤ 2; omega)

/-- In an order that sorts the distances, with the third strictly below the fourth: just three points lie within the
    third distance, and the nearest three are the first three of the order. -/
theorem near_sorted {n : ℕ} (hn : 4 ≤ n) (d : Fin n → ℝ) (σ : Fin n → Fin n) (hσ : Function.Bijective σ)
    (hmono : ∀ i j : Fin n, i ≤ j → d (σ i) ≤ d (σ j))
    (hsep : d (σ ⟨2, by omega⟩) < d (σ ⟨3, by omega⟩)) :
    cntR d (d (σ ⟨2, by omega⟩)) = 3 ∧
    ∀ {M : Type} [AddCommMonoid M] (g : Fin n → M), ∑ k : Fin 3, g (σ ⟨k.val, by omega⟩) = ∑ s ∈ near d, g s := by
  have h := cnt_sorted hn d σ hσ hmono hsep
  have hinj : Function.Injective (fun k : Fin 3 => σ ⟨k.val, by omega⟩) := fun a b hab => by
    have := hσ.1 hab
    simp only [Fin.mk.injEq] at this
    exact Fin.ext this
  have hc : cntR d (d (σ ⟨2, by omega⟩)) = 3 := by
    unfold cntR cnt; rw [h, Finset.card_image_of_injective _ hinj]; rfl
  refine ⟨hc, fun g => ?_⟩
  rw [← near_eq d _ hc, h, Finset.sum_image fun a _ b _ hab => hinj hab]

/-- The stable sort by "less than" orders the entries. -/
theorem sortedFrom_mono {n : ℕ} (d : Fin n → ℝ) (i j : Fin n) (hij : i ≤ j) :
    d (sortedFrom (fun k k' => decide (d k < d k')) i) ≤ d (sortedFrom (fun k k' => decide (d k < d k')) j) := by
  have hp := pairwise_stableSort (fun k k' : Fin n => decide (d k < d k')) (fun k k' => decide (d k < d k'))
    (fun a b h => by simp only [decide_eq_true_eq, decide_eq_false_iff_not, not_lt] at *; exact h.le) (fun _ _ h => h)
    (fun a b c h1 h2 => by simp only [decide_eq_false_iff_not, not_lt] at *; exact h2.trans h1) (List.finRange n)
  rcases eq_or_lt_of_le hij with h | h
  · rw [h]
  · have := List.pairwise_iff_get.mp hp (i.cast (length_sortPositions n _).symm) (j.cast (length_sortPositions n _).symm) h
    simp only [decide_eq_false_iff_not, not_lt] at this
    exact this

end Cert.Near

end
-- ==== Proof.Spec.lean ====
/- What both programs compute, over the real numbers: the network's layers as functions of the argument arrays' real
   entries; and the algebra by which a mean of squares less the squared mean is the variance. -/
module

public import proofs.«01_k».proof.Proof.Near

@[expose] public section

noncomputable section

open Idealize.ShloMosaic
open scoped BigOperators

namespace Cert.Spec

open Cert.Near

/-! ## The literals -/

/-- The small number added to a squared distance before it is inverted, as the programs' word gives it. -/
def eps8 : ℝ := 11258999 * (2 : ℝ) ^ (-50 : ℤ)

/-- The small number added to a variance, as the programs' word gives it. -/
def eps5 : ℝ := 10995116 * (2 : ℝ) ^ (-40 : ℤ)

/-- The number added to a distance is positive. -/
theorem eps8_pos : 0 < eps8 := by unfold eps8; positivity
/-- The number added to a variance is positive. -/
theorem eps5_pos : 0 < eps5 := by unfold eps5; positivity

/-- The float word of 1e-8 is its rational. -/
theorem word_eps8 : Ideal.ofBits .f32 0x322BCC77#32 = (eps8 : EReal) := by
  simp [Ideal.ofBits, Ideal.ieee, eps8]

/-- The float word of 1e-5 is its rational. -/
theorem word_eps5 : Ideal.ofBits .f32 0x3727C5AC#32 = (eps5 : EReal) := by
  simp [Ideal.ofBits, Ideal.ieee, eps5]

/-- The word of zero. -/
theorem word_zero : Ideal.ofBits .f32 0x00000000#32 = ((0 : ℝ) : EReal) := by
  simp [Ideal.ofBits, Ideal.ieee]

/-- The word of one. -/
theorem word_one : Ideal.ofBits .f32 0x3F800000#32 = ((1 : ℝ) : EReal) := by
  simp [Ideal.ofBits, Ideal.ieee]; rw [← EReal.coe_mul, ← EReal.coe_one]; norm_num

/-- The word of three. -/
theorem word_three : Ideal.ofBits .f32 0x40400000#32 = ((3 : ℝ) : EReal) := by
  simp [Ideal.ofBits, Ideal.ieee]; rw [← EReal.coe_mul]; norm_num

/-- The word of minus two. -/
theorem word_neg_two : Ideal.ofBits .f32 0xC0000000#32 = ((-2 : ℝ) : EReal) := by
  simp [Ideal.ofBits, Ideal.ieee]; rw [← EReal.coe_mul]; norm_num

/-- The word of 65536. -/
theorem word_count : Ideal.ofBits .f32 0x47800000#32 = ((65536 : ℝ) : EReal) := by
  simp [Ideal.ofBits, Ideal.ieee]; rw [← EReal.coe_mul]; norm_num

/-- The word of plus infinity. -/
theorem word_top : Ideal.ofBits .f32 0x7F800000#32 = ⊤ := by
  simp [Ideal.ofBits, Ideal.ieee]

/-! ## The layers -/

/-- The argument arrays' entries: points and features of the few and of the large set, and the two layers' weights,
    biases, scales and shifts. The last shift is the one argument nothing is asked of, so it may be infinite. -/
structure Args where
  xf : Fin 8 → Fin 1024 → Fin 3 → ℝ
  ff : Fin 8 → Fin 1024 → Fin 256 → ℝ
  xl : Fin 8 → Fin 8192 → Fin 3 → ℝ
  fl : Fin 8 → Fin 8192 → Fin 128 → ℝ
  W1 : Fin 256 → Fin 384 → ℝ
  b1 : Fin 256 → ℝ
  g1 : Fin 256 → ℝ
  be1 : Fin 256 → ℝ
  W2 : Fin 256 → Fin 256 → ℝ
  b2 : Fin 256 → ℝ
  g2 : Fin 256 → ℝ
  be2 : Fin 256 → EReal

variable (A : Args)

/-- The squared distance of query `n` from known point `s`, expanded as the programs compute it. -/
def dist (b : Fin 8) (n : Fin 8192) (s : Fin 1024) : ℝ :=
  -2 * (∑ k, A.xl b n k * A.xf b s k) + (∑ k, A.xl b n k * A.xl b n k) + (∑ k, A.xf b s k * A.xf b s k)

/-- It is a sum of squares, so it is not negative. -/
theorem dist_nonneg (b : Fin 8) (n : Fin 8192) (s : Fin 1024) : 0 ≤ dist A b n s := by
  have : dist A b n s = ∑ k, (A.xl b n k - A.xf b s k) ^ 2 := by
    unfold dist
    rw [Finset.mul_sum, ← Finset.sum_add_distrib, ← Finset.sum_add_distrib]
    exact Finset.sum_congr rfl fun k _ => by ring
  rw [this]
  exact Finset.sum_nonneg fun k _ => sq_nonneg _

/-- A squared distance with the small number added is positive. -/
theorem dist_pos (b : Fin 8) (n : Fin 8192) (s : Fin 1024) : 0 < dist A b n s + eps8 := by
  have := dist_nonneg A b n s; have := eps8_pos; linarith

/-- The inverse distance. -/
def inv (b : Fin 8) (n : Fin 8192) (s : Fin 1024) : ℝ := 1 / (dist A b n s + eps8)

/-- The sum of the inverse distances of the nearest points. -/
def norm (b : Fin 8) (n : Fin 8192) : ℝ := ∑ s ∈ near (dist A b n), inv A b n s

/-- The interpolated feature. -/
def interp (b : Fin 8) (n : Fin 8192) (c : Fin 256) : ℝ := ∑ s ∈ near (dist A b n), A.ff b s c * (inv A b n s / norm A b n)

/-- The query's own features followed by the interpolated ones. -/
def cat (b : Fin 8) (n : Fin 8192) (k : Fin 384) : ℝ :=
  if h : k.val < 128 then A.fl b n ⟨k.val, h⟩ else interp A b n ⟨k.val - 128, by omega⟩

/-- The first layer's product. -/
def y1 (b : Fin 8) (o : Fin 256) (n : Fin 8192) : ℝ := (∑ k, cat A b n k * A.W1 o k) + A.b1 o

/-- The mean of a channel over the batch and the points. -/
def mean (y : Fin 8 → Fin 256 → Fin 8192 → ℝ) (o : Fin 256) : ℝ := (∑ b, ∑ n, y b o n) / 65536

/-- The variance of a channel over the batch and the points. -/
def var (y : Fin 8 → Fin 256 → Fin 8192 → ℝ) (o : Fin 256) : ℝ :=
  (∑ b, ∑ n, (y b o n - mean y o) * (y b o n - mean y o)) / 65536

/-- A channel's normalized and scaled value, before its shift. -/
def nrm (y : Fin 8 → Fin 256 → Fin 8192 → ℝ) (g : Fin 256 → ℝ) (b : Fin 8) (o : Fin 256) (n : Fin 8192) : ℝ :=
  (y b o n - mean y o) / Real.sqrt (var y o + eps5) * g o

/-- The first layer's result. -/
def h1 (b : Fin 8) (o : Fin 256) (n : Fin 8192) : ℝ := max (nrm (y1 A) A.g1 b o n + A.be1 o) 0

/-- The second layer's product. -/
def y2 (b : Fin 8) (o : Fin 256) (n : Fin 8192) : ℝ := (∑ k, h1 A b k n * A.W2 o k) + A.b2 o

/-- The result. -/
def out (b : Fin 8) (o : Fin 256) (n : Fin 8192) : EReal := max ((nrm (y2 A) A.g2 b o n : EReal) + A.be2 o) 0

/-! ## The variance -/

/-- A variance is not negative. -/
theorem var_nonneg (y : Fin 8 → Fin 256 → Fin 8192 → ℝ) (o : Fin 256) : 0 ≤ var y o :=
  div_nonneg (Finset.sum_nonneg fun b _ => Finset.sum_nonneg fun n _ => mul_self_nonneg _) (by norm_num)

/-- The root of a variance with the small number added is positive. -/
theorem sd_pos (y : Fin 8 → Fin 256 → Fin 8192 → ℝ) (o : Fin 256) : 0 < Real.sqrt (var y o + eps5) :=
  Real.sqrt_pos.mpr (by have := var_nonneg y o; have := eps5_pos; linarith)

/-- The mean of the squares less the square of the mean is the variance. -/
theorem var_eq (y : Fin 8 → Fin 256 → Fin 8192 → ℝ) (o : Fin 256) :
    (∑ b, ∑ n, y b o n * y b o n) / 65536 - mean y o * mean y o = var y o := by
  unfold var
  have h1 : ∀ μ : ℝ, (∑ b : Fin 8, ∑ n : Fin 8192, (y b o n - μ) * (y b o n - μ))
      = (∑ b, ∑ n, y b o n * y b o n) - 2 * μ * (∑ b, ∑ n, y b o n) + 65536 * (μ * μ) := fun μ => by
    have : ∀ b : Fin 8, (∑ n : Fin 8192, (y b o n - μ) * (y b o n - μ))
        = (∑ n, y b o n * y b o n) - 2 * μ * (∑ n, y b o n) + 8192 * (μ * μ) := fun b => by
      rw [Finset.mul_sum, ← Finset.sum_sub_distrib]
      have h8 : (8192 : ℝ) * (μ * μ) = ∑ n : Fin 8192, μ * μ := by simp
      rw [h8, ← Finset.sum_add_distrib]
      exact Finset.sum_congr rfl fun n _ => by ring
    rw [Finset.sum_congr rfl fun b _ => this b, Finset.sum_add_distrib, Finset.sum_sub_distrib, ← Finset.mul_sum]
    simp; ring
  rw [h1]
  have hm : (∑ b, ∑ n, y b o n) = 65536 * mean y o := by unfold mean; ring
  rw [hm]; ring

/-- Scaling by `g / sd` and shifting by what is left of `be` is the normalized value, scaled and shifted; the shift may
    be infinite. -/
theorem scale_shift (y : Fin 8 → Fin 256 → Fin 8192 → ℝ) (g : Fin 256 → ℝ) (be : EReal) (b : Fin 8) (o : Fin 256)
    (n : Fin 8192) :
    ((y b o n : ℝ) : EReal) * ((g o * (Real.sqrt (var y o + eps5))⁻¹ : ℝ) : EReal)
        + (be - ((mean y o * (g o * (Real.sqrt (var y o + eps5))⁻¹) : ℝ) : EReal))
      = (nrm y g b o n : EReal) + be := by
  have h := (sd_pos y o).ne'
  rw [← EReal.coe_mul, sub_eq_add_neg, ← EReal.coe_neg, add_comm be, ← add_assoc, ← EReal.coe_add]
  congr 2
  unfold nrm
  field_simp
  ring

end Cert.Spec

end
-- ==== Proof.Arrays.lean ====
/- The argument arrays as the programs hold them, and the order in which the reference sorts the distances. -/
module

public import proofs.«01_k».proof.Proof.Spec
public import Idealize.ShloMosaic.Lib.SortFacts
public import Idealize.ShloMosaic.Lib.ValueIdx
public import Idealize.ShloMosaic.PureOps.Ideal.Laws

@[expose] public section

noncomputable section

open Idealize.ShloMosaic
open scoped BigOperators

namespace Cert.Spec

open Cert.Near

variable (A : Args)

def X0 : (⟨3, ![8, 1024, 3]⟩ : Shape).Idx → EReal := fun i => (A.xf (i 0) (i 1) (i 2) : EReal)
def X1 : (⟨3, ![8, 1024, 256]⟩ : Shape).Idx → EReal := fun i => (A.ff (i 0) (i 1) (i 2) : EReal)
def X2 : (⟨3, ![8, 8192, 3]⟩ : Shape).Idx → EReal := fun i => (A.xl (i 0) (i 1) (i 2) : EReal)
def X3 : (⟨3, ![8, 8192, 128]⟩ : Shape).Idx → EReal := fun i => (A.fl (i 0) (i 1) (i 2) : EReal)
def X4 : (⟨2, ![256, 384]⟩ : Shape).Idx → EReal := fun i => (A.W1 (i 0) (i 1) : EReal)
def X5 : (⟨1, ![256]⟩ : Shape).Idx → EReal := fun i => (A.b1 (i 0) : EReal)
def X6 : (⟨1, ![256]⟩ : Shape).Idx → EReal := fun i => (A.g1 (i 0) : EReal)
def X7 : (⟨1, ![256]⟩ : Shape).Idx → EReal := fun i => (A.be1 (i 0) : EReal)
def X8 : (⟨2, ![256, 256]⟩ : Shape).Idx → EReal := fun i => (A.W2 (i 0) (i 1) : EReal)
def X9 : (⟨1, ![256]⟩ : Shape).Idx → EReal := fun i => (A.b2 (i 0) : EReal)
def X10 : (⟨1, ![256]⟩ : Shape).Idx → EReal := fun i => (A.g2 (i 0) : EReal)
def X11 : (⟨1, ![256]⟩ : Shape).Idx → EReal := fun i => A.be2 (i 0)

/-- The result, as an array. -/
def Out : (⟨3, ![8, 256, 8192]⟩ : Shape).Idx → EReal := fun i => out A (i 0) (i 1) (i 2)

/-- The known points in order of distance from query `n`. -/
def perm (b : Fin 8) (n : Fin 8192) : Fin 1024 → Fin 1024 :=
  sortedFrom (fun k k' => decide (dist A b n k < dist A b n k'))

/-- Every query's third neighbour is nearer than its fourth. -/
def Sep : Prop := ∀ b n, dist A b n (perm A b n 2) < dist A b n (perm A b n 3)

variable {A}

/-- Exactly three points are as near as the third. -/
theorem count_third (h : Sep A) (b : Fin 8) (n : Fin 8192) : cntR (dist A b n) (dist A b n (perm A b n 2)) = 3 :=
  (near_sorted (by norm_num) (dist A b n) (perm A b n) ⟨sortedFrom_injective _, sortedFrom_surjective _⟩
    (sortedFrom_mono _) (h b n)).1

/-- A sum over the first three of the order is a sum over the nearest points. -/
theorem sum_first (h : Sep A) (b : Fin 8) (n : Fin 8192) {M : Type} [AddCommMonoid M] (g : Fin 1024 → M) :
    ∑ k : Fin 3, g (perm A b n ⟨k.val, by omega⟩) = ∑ s ∈ near (dist A b n), g s :=
  (near_sorted (by norm_num) (dist A b n) (perm A b n) ⟨sortedFrom_injective _, sortedFrom_surjective _⟩
    (sortedFrom_mono _) (h b n)).2 g

/-- The nearest points' inverse distances sum to a positive number. -/
theorem norm_pos (h : Sep A) (b : Fin 8) (n : Fin 8192) : 0 < norm A b n := by
  unfold norm
  rw [← sum_first h b n (inv A b n)]
  exact Finset.sum_pos (fun k _ => one_div_pos.mpr (dist_pos A b n _)) Finset.univ_nonempty

/-- The comparator's order on two extended reals: by value. -/
theorem cmp_lt (x y : EReal) : (Ideal.cmp .olt x y == 1#1) = decide (x < y) := by
  unfold Ideal.cmp
  by_cases h : x < y <;> simp [h]

end Cert.Spec

end
-- ==== Proof.Ref1.lean ====
/- The reference up to the interpolated features: distances, the three nearest points, their weights. -/
module

public import proofs.«01_k».proof.Proof.Arrays
public import proofs.«01_k».proof.Proof.Gen.ReferenceIdeal.Read

@[expose] public section

set_option maxRecDepth 16384

noncomputable section

open Idealize.ShloMosaic Idealize.ShloMosaic.ValueIdx
open scoped BigOperators

namespace Cert.ReferenceIdeal.Read

open Cert.ReferenceIdeal Cert.ReferenceIdeal.Gen Cert.Spec Cert.Near

variable (A : Args)

/-- The distances. -/
theorem v12_eq (b : Fin 8) (n : Fin 8192) (s : Fin 1024) :
    val_main_v12 (F := Ideal) (X0 A) (X2 A) (ix3 b n s) = (dist A b n s : EReal) := by
  simp only [val_main_v12_apply, val_main_v7_apply, val_main_v2_apply, val_main_v1_apply, val_main_cst_apply,
    val_main_v0_apply, val_main_v6_apply, val_main_v5_apply, val_main_v4_apply, val_main_cst_0_apply, val_main_v3_apply,
    val_main_v11_apply, val_main_v10_apply, val_main_v9_apply, val_main_v8_apply, val_main_cst_1_apply]
  show Ideal.ofBits .f32 0xC0000000#32 * (∑ k : Fin 3, (A.xl b n k : EReal) * (A.xf b s k : EReal))
      + (Ideal.ofBits .f32 0x00000000#32 + ∑ k : Fin 3, (A.xl b n k : EReal) * (A.xl b n k : EReal))
      + (Ideal.ofBits .f32 0x00000000#32 + ∑ k : Fin 3, (A.xf b s k : EReal) * (A.xf b s k : EReal)) = _
  rw [word_neg_two, word_zero]
  simp only [← EReal.coe_mul, ← coe_sum, ← EReal.coe_add, zero_add]
  rfl

/-- The sort's comparator orders pairs by their first component. -/
theorem comparator_eq (x y : EReal) (p q : BitVec 32) :
    comparator_f32_i32_d2 (F := Ideal) (x, p) (y, q) = Ideal.cmp .olt x y := by
  have hz : ∀ v w : EReal, Scalar.select (Ideal.cmp .oeq v w) w v = v := fun v w => by
    by_cases h : v = w
    · rw [h]; unfold Scalar.select; split <;> rfl
    · simp [Ideal.cmp, Scalar.select, h]
  have hn : ∀ v w z : EReal, Scalar.select (Ideal.cmp .une v v) w z = z := fun v w z => by
    simp [Ideal.cmp, Scalar.select]
  unfold comparator_f32_i32_d2
  simp only [Ideal.cmpf_def, Ideal.cmpfTotal_def]
  rw [hn, hn]
  refine (congrArg₂ _ (hz x _) (hz y _)).trans ?_
  rfl

/-- A two-operand sort along the last of three axes reads its second operand at the sorted position. -/
theorem sort2_last {α β : Type} (cmp : α × β → α × β → BitVec 1) (x : S8x8192x1024.Idx → α) (y : S8x8192x1024.Idx → β)
    (b : Fin 8) (n : Fin 8192) (k : Fin 1024) :
    (Host.sort2 S8x8192x1024 2 cmp x y).2 (ix3 b n k)
      = y (ix3 b n (sortedFrom (fun q q' => cmp (x (ix3 b n q), y (ix3 b n q)) (x (ix3 b n q'), y (ix3 b n q')) == 1#1) k)) := by
  have ha : ∀ q : Fin 1024, Shape.Idx.along (s := S8x8192x1024) (ix3 b n k) (2 : Fin 3) q = ix3 b n q := fun q => by
    funext a
    match a with
    | ⟨0, _⟩ => rfl
    | ⟨1, _⟩ => rfl
    | ⟨2, _⟩ => rfl
  unfold Host.sort2
  rw [dif_pos (show 2 < S8x8192x1024.rank by decide)]
  refine (congrArg y (ha _)).trans ?_
  refine congrArg (fun f => y (ix3 b n (sortedFrom f k))) ?_
  funext q q'
  rw [← ha q, ← ha q']
  rfl

/-- The argsort's positions. -/
theorem v13_eq (b : Fin 8) (n : Fin 8192) (k : Fin 1024) :
    val_main_v13 (F := Ideal) (X0 A) (X2 A) (ix3 b n k) = BitVec.ofNat 32 (perm A b n k).val := by
  have hb : (fun k k' : Fin 1024 => comparator_f32_i32_d2 (F := Ideal)
      (val_main_v12 (F := Ideal) (X0 A) (X2 A) (ix3 b n k), val_main_call0_v0 (F := Ideal) (ix3 b n k))
      (val_main_v12 (F := Ideal) (X0 A) (X2 A) (ix3 b n k'), val_main_call0_v0 (F := Ideal) (ix3 b n k')) == 1#1)
      = fun k k' => decide (dist A b n k < dist A b n k') := by
    funext k k'
    rw [comparator_eq, cmp_lt, v12_eq, v12_eq]
    simp only [EReal.coe_lt_coe_iff]
  unfold val_main_v13
  rw [sort2_last, hb, val_main_call0_v0_apply]
  rfl

end Cert.ReferenceIdeal.Read

end
-- ==== Proof.Ref2.lean ====
/- The reference's nearest points, weights and interpolated features. -/
module

public import proofs.«01_k».proof.Proof.Ref1

@[expose] public section

set_option maxRecDepth 16384

noncomputable section

open Idealize.ShloMosaic Idealize.ShloMosaic.ValueIdx
open scoped BigOperators

namespace Cert.ReferenceIdeal.Read

open Cert.ReferenceIdeal Cert.ReferenceIdeal.Gen Cert.Spec Cert.Near

variable {A : Args}

/-- A rank among the first three, as a rank. -/
abbrev up (k : Fin 3) : Fin 1024 := ⟨k.val, by omega⟩

/-- The point at rank `k`, as a word. -/
theorem v14_eq (b : Fin 8) (n : Fin 8192) (k : Fin 3) :
    val_main_v14 (F := Ideal) (X0 A) (X2 A) (ix3 b n k) = BitVec.ofNat 32 (perm A b n (up k)).val := by
  rw [val_main_v14_apply, show idx_main_v14 (ix3 b n k) = ix3 b n (up k) from eq_ix3 _, v13_eq]

/-! A word below 1024 is not negative, so wrapping leaves it, and it is in bounds. -/

/-- The word of a point's index is not negative. -/
theorem word_slt (s : Fin 1024) : IntOp.cmpi .slt (BitVec.ofNat 32 s.val) 0#32 = 0#1 := by
  revert s; decide +kernel

/-- The word of a point's index is at least zero. -/
theorem word_sge (s : Fin 1024) : IntOp.cmpi .sge (BitVec.ofNat 32 s.val) 0#32 = 1#1 := by
  revert s; decide +kernel

/-- The word of a point's index is at most 1023. -/
theorem word_sle (s : Fin 1024) : IntOp.cmpi .sle (BitVec.ofNat 32 s.val) 1023#32 = 1#1 := by
  revert s; decide +kernel

/-- The word of a point's index, read and clamped, is the index. -/
theorem word_nat (s : Fin 1024) : min (BitVec.ofNat 32 s.val).toInt.toNat 1023 = s.val := by
  revert s; decide +kernel

/-- The wrapped positions the distances are taken at. -/
theorem call1_v5_eq (b : Fin 8) (n : Fin 8192) (k : Fin 3) (z : Fin 1) :
    val_main_call1_v5 (F := Ideal) (X0 A) (X2 A) (ix4 b n k z) = BitVec.ofNat 32 (perm A b n (up k)).val := by
  have e : idx_main_call1_v5 (ix4 b n k z) = ix3 b n k := by
    refine (eq_ix3 _).trans ?_
    have := z.isLt; have := k.isLt; have := n.isLt; have := b.isLt
    congr 1
    · refine Fin.ext ?_; show (((b.val * 8192 + n.val) * 3 + k.val) * 1 + z.val) / 24576 = b.val; omega
    · refine Fin.ext ?_; show (((b.val * 8192 + n.val) * 3 + k.val) * 1 + z.val) / 3 % 8192 = n.val; omega
    · refine Fin.ext ?_; show (((b.val * 8192 + n.val) * 3 + k.val) * 1 + z.val) % 3 = k.val; omega
  rw [val_main_call1_v5_apply, e, val_main_call1_v4_apply, val_main_call1_v1_apply, val_main_call1_v0_apply,
    val_main_call1_c_apply, v14_eq, word_slt]
  rfl

/-- Every position is in bounds. -/
theorem call1_v12_eq (b : Fin 8) (n : Fin 8192) (k : Fin 3) :
    val_main_call1_v12 (F := Ideal) (X0 A) (X2 A) (ix3 b n k) = 1#1 := by
  have h : ∀ i, val_main_call1_v11 (F := Ideal) (X0 A) (X2 A) i = 1#1 := fun i => by
    obtain ⟨b, n, k, z, rfl⟩ : ∃ (b : Fin 8) (n : Fin 8192) (k : Fin 3) (z : Fin 1), i = ix4 b n k z :=
      ⟨i 0, i 1, i 2, i 3, eq_ix4 i⟩
    rw [val_main_call1_v11_apply, val_main_call1_v7_apply, val_main_call1_v10_apply, call1_v5_eq, val_main_call1_v6_apply,
      val_main_call1_c_2_apply, val_main_call1_v9_apply, val_main_call1_v8_apply, val_main_call1_c_1_apply, word_sge,
      word_sle]
    rfl
  unfold val_main_call1_v12
  rw [Host.reduce_eq_foldl]
  generalize List.filter _ _ = l
  have h0 : val_main_call1_c_3 (F := Ideal) (Shape.Idx.first h_S_) = 1#1 := rfl
  rw [h0]
  induction l with
  | nil => rfl
  | cons i l ih =>
    rw [List.foldl_cons, h i]
    exact ih

/-- A gather along the last of three axes, batched over the first two, reads its operand at the position held. -/
theorem gather_points {α : Type} (x : S8x8192x1024.Idx → α) (p : IVec S8x8192x3x1 32) (b : Fin 8) (n : Fin 8192)
    (k : Fin 3) (s : Fin 1024) (h : p (ix4 b n k 0) = BitVec.ofNat 32 s.val) :
    Host.gather gather_S8x8192x1024_S8x8192x3x1_S8x8192x3_n_2_01_01_2_3_111 x p (ix3 b n k) = x (ix3 b n s) := by
  unfold Host.gather
  congr 1
  funext a
  refine Fin.ext ?_
  show gather_S8x8192x1024_S8x8192x3x1_S8x8192x3_n_2_01_01_2_3_111.start (ix3 b n k) p a
    + gather_S8x8192x1024_S8x8192x3x1_S8x8192x3_n_2_01_01_2_3_111.batchCoord (ix3 b n k) a
    + gather_S8x8192x1024_S8x8192x3x1_S8x8192x3_n_2_01_01_2_3_111.offCoord (ix3 b n k) a = _
  have ha : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.start_batching _ _ _ _ (by decide), GatherDims.offCoord_eq_zero _ _ _ (by decide)]
    unfold GatherDims.batchCoord
    rw [dif_pos (by decide)]
    show 0 + b.val + 0 = b.val
    omega
  · rw [GatherDims.start_batching _ _ _ _ (by decide), GatherDims.offCoord_eq_zero _ _ _ (by decide)]
    unfold GatherDims.batchCoord
    rw [dif_pos (by decide)]
    show 0 + n.val + 0 = n.val
    omega
  · rw [GatherDims.batchCoord_eq_zero _ _ _ (by decide), GatherDims.offCoord_eq_zero _ _ _ (by decide)]
    unfold GatherDims.start
    rw [dif_pos (by decide)]
    have hsi : ∀ c, gather_S8x8192x1024_S8x8192x3x1_S8x8192x3_n_2_01_01_2_3_111.siIdx (ix3 b n k) c = ix4 b n k 0 := fun c => by
      funext q; refine Fin.ext ?_
      match q with
      | ⟨0, _⟩ => rfl
      | ⟨1, _⟩ => rfl
      | ⟨2, _⟩ => rfl
      | ⟨3, _⟩ => have := c.isLt; exact Nat.lt_one_iff.mp this
    rw [hsi, h]
    exact word_nat s

/-- A gather of rows, batched over the first axis, reads its operand at the position held. -/
theorem gather_rows {α : Type} (x : S8x1024x256.Idx → α) (p : IVec S8x8192x3x1 32) (b : Fin 8) (n : Fin 8192)
    (k : Fin 3) (c : Fin 256) (s : Fin 1024) (h : p (ix4 b n k 0) = BitVec.ofNat 32 s.val) :
    Host.gather gather_S8x1024x256_S8x8192x3x1_S8x8192x3x256_3_1_0_0_1_3_11256 x p (ix4 b n k c) = x (ix3 b s c) := by
  unfold Host.gather
  congr 1
  funext a
  refine Fin.ext ?_
  show gather_S8x1024x256_S8x8192x3x1_S8x8192x3x256_3_1_0_0_1_3_11256.start (ix4 b n k c) p a
    + gather_S8x1024x256_S8x8192x3x1_S8x8192x3x256_3_1_0_0_1_3_11256.batchCoord (ix4 b n k c) a
    + gather_S8x1024x256_S8x8192x3x1_S8x8192x3x256_3_1_0_0_1_3_11256.offCoord (ix4 b n k c) a = _
  have ha : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.start_batching _ _ _ _ (by decide), GatherDims.offCoord_eq_zero _ _ _ (by decide)]
    unfold GatherDims.batchCoord
    rw [dif_pos (by decide)]
    show 0 + b.val + 0 = b.val
    omega
  · rw [GatherDims.batchCoord_eq_zero _ _ _ (by decide), GatherDims.offCoord_eq_zero _ _ _ (by decide)]
    unfold GatherDims.start
    rw [dif_pos (by decide)]
    have hsi : ∀ q, gather_S8x1024x256_S8x8192x3x1_S8x8192x3x256_3_1_0_0_1_3_11256.siIdx (ix4 b n k c) q = ix4 b n k 0 := fun q => by
      funext r; refine Fin.ext ?_
      match r with
      | ⟨0, _⟩ => rfl
      | ⟨1, _⟩ => rfl
      | ⟨2, _⟩ => rfl
      | ⟨3, _⟩ => have := q.isLt; exact Nat.lt_one_iff.mp this
    rw [hsi, h]
    exact word_nat s
  · rw [GatherDims.batchCoord_eq_zero _ _ _ (by decide)]
    unfold GatherDims.start GatherDims.offCoord
    rw [dif_neg (by decide), dif_pos (by decide)]
    show 0 + 0 + c.val = c.val
    omega

/-- The distance at rank `k`. -/
theorem v15_eq (b : Fin 8) (n : Fin 8192) (k : Fin 3) :
    val_main_v15 (F := Ideal) (X0 A) (X2 A) (ix3 b n k) = (dist A b n (perm A b n (up k)) : EReal) := by
  rw [val_main_v15_apply, call1_v12_eq]
  unfold val_main_call1_v13
  rw [gather_points _ _ b n k _ (call1_v5_eq b n k 0), v12_eq]
  rfl

/-- The inverse distance at rank `k`. -/
theorem v19_eq (b : Fin 8) (n : Fin 8192) (k : Fin 3) :
    val_main_v19 (F := Ideal) (X0 A) (X2 A) (ix3 b n k) = (inv A b n (perm A b n (up k)) : EReal) := by
  rw [val_main_v19_apply, val_main_v18_apply, val_main_cst_3_apply, val_main_v17_apply, v15_eq, val_main_v16_apply,
    val_main_cst_2_apply]
  show Ideal.div (Ideal.ofBits .f32 0x3F800000#32) (_ + Ideal.ofBits .f32 0x322BCC77#32) = _
  rw [word_one, word_eps8, ← EReal.coe_add, div_coe _ _ (dist_pos A b n _).ne']
  rfl

/-- The sum of the inverse distances. -/
theorem v20_eq (h : Sep A) (b : Fin 8) (n : Fin 8192) :
    val_main_v20 (F := Ideal) (X0 A) (X2 A) (ix2 b n) = (norm A b n : EReal) := by
  have e : ∀ k : Fin 3, idx_main_v20 (ix2 b n) k = ix3 b n k := fun k => eq_ix3 _
  rw [val_main_v20_apply, val_main_cst_4_apply]
  simp only [e, v19_eq]
  show Ideal.ofBits .f32 0x00000000#32 + _ = _
  rw [word_zero, ← coe_sum, ← EReal.coe_add, zero_add]
  exact congrArg _ (sum_first h b n (inv A b n))

/-- The weight at rank `k`. -/
theorem v23_eq (h : Sep A) (b : Fin 8) (n : Fin 8192) (k : Fin 3) :
    val_main_v23 (F := Ideal) (X0 A) (X2 A) (ix3 b n k) = ((inv A b n (perm A b n (up k)) / norm A b n : ℝ) : EReal) := by
  have e : idx_main_v21 (idx_main_v22 (ix3 b n k)) = ix2 b n := eq_ix2 _
  rw [val_main_v23_apply, v19_eq, val_main_v22_apply, val_main_v21_apply, e, v20_eq h]
  exact div_coe _ _ (norm_pos h b n).ne'

/-- The wrapped positions the features are taken at. -/
theorem v29_eq (b : Fin 8) (n : Fin 8192) (k : Fin 3) (z : Fin 1) :
    val_main_v29 (F := Ideal) (X0 A) (X2 A) (ix4 b n k z) = BitVec.ofNat 32 (perm A b n (up k)).val := by
  have e : idx_main_v29 (ix4 b n k z) = ix3 b n k := eq_ix3 _
  rw [val_main_v29_apply, e, val_main_v28_apply, val_main_v25_apply, val_main_v24_apply, val_main_c_apply, v14_eq,
    word_slt]
  rfl

/-- The interpolated features. -/
theorem v34_eq (h : Sep A) (b : Fin 8) (n : Fin 8192) (c : Fin 256) :
    val_main_v34 (F := Ideal) (X0 A) (X1 A) (X2 A) (ix3 b n c) = (interp A b n c : EReal) := by
  have e : ∀ k : Fin 3, idx_main_v34 (ix3 b n c) k = ix4 b n k c := fun k => eq_ix4 _
  have e' : ∀ k : Fin 3, idx_main_v31 (idx_main_v32 (ix4 b n k c)) = ix3 b n k := fun k => eq_ix3 _
  have h30 : ∀ k : Fin 3, val_main_v30 (F := Ideal) (X0 A) (X1 A) (X2 A) (ix4 b n k c)
      = (A.ff b (perm A b n (up k)) c : EReal) := fun k => by
    unfold val_main_v30
    rw [gather_rows _ _ b n k c _ (v29_eq b n k 0)]
    rfl
  have h33 : ∀ k : Fin 3, val_main_v33 (F := Ideal) (X0 A) (X1 A) (X2 A) (ix4 b n k c)
      = ((A.ff b (perm A b n (up k)) c * (inv A b n (perm A b n (up k)) / norm A b n) : ℝ) : EReal) := fun k => by
    rw [val_main_v33_apply, h30, val_main_v32_apply, val_main_v31_apply, e', v23_eq h]
    exact (EReal.coe_mul _ _).symm
  rw [val_main_v34_apply, val_main_cst_6_apply]
  simp only [e, h33]
  show Ideal.ofBits .f32 0x00000000#32 + _ = _
  rw [word_zero, ← coe_sum, ← EReal.coe_add, zero_add]
  exact congrArg _ (sum_first h b n (fun s => A.ff b s c * (inv A b n s / norm A b n)))

end Cert.ReferenceIdeal.Read

end
-- ==== Proof.Ref3.lean ====
/- The reference's two layers, and its result. -/
module

public import proofs.«01_k».proof.Proof.Ref2

@[expose] public section

set_option maxRecDepth 16384

noncomputable section

open Idealize.ShloMosaic Idealize.ShloMosaic.ValueIdx
open scoped BigOperators

namespace Cert.ReferenceIdeal.Read

open Cert.ReferenceIdeal Cert.ReferenceIdeal.Gen Cert.Spec Cert.Near

/-! ## A normalization, over any array -/

abbrev Chan : Type := (⟨S256, .f32⟩ : BufTy).Contents (Elt Ideal)
abbrev Col : Type := (⟨S1x256x1, .f32⟩ : BufTy).Contents (Elt Ideal)
abbrev Full : Type := (⟨S8x256x8192, .f32⟩ : BufTy).Contents (Elt Ideal)
abbrev Sca : Type := (⟨S_, .f32⟩ : BufTy).Contents (Elt Ideal)

/-- A literal. -/
abbrev lit (w : BitVec 32) : Sca := constant (F := Ideal) S_ .f32 w
/-- A channel vector as a column. -/
abbrev col (v : Chan) : Col := broadcastInDim S1x256x1 ![1] bcast_S256_S1x256x1_1 v
/-- A column over the whole array. -/
abbrev spread (v : Col) : Full := broadcastInDim S8x256x8192 ![0, 1, 2] bcast_S1x256x1_S8x256x8192_0_1_2 v
/-- A number as a column. -/
abbrev num (v : Sca) : Col := broadcastInDim S1x256x1 ![] bcast_S_S1x256x1 v
/-- The sum over the batch and the points. -/
abbrev total (y : Full) : Chan := Host.reduceAdd (F := Ideal) (φ := .f32) y (lit 0x00000000#32) reducesTo_S8x256x8192_S256_d0_2 h_S_
/-- The mean. -/
abbrev meanCol (y : Full) : Col := Host.divf (F := Ideal) (φ := .f32) (col (total y)) (num (lit 0x47800000#32))
/-- The number of elements averaged, as the variance counts it. -/
abbrev countSca : Sca := subf (F := Ideal) (φ := .f32) (lit 0x47800000#32) (sitofp .f32 (constantI S_ 32 0#32))
/-- The sum of the squared differences from the mean. -/
abbrev sqTotal (y : Full) : Chan :=
  total (mulf (F := Ideal) (φ := .f32) (subf (F := Ideal) (φ := .f32) y (spread (meanCol y))) (subf (F := Ideal) (φ := .f32) y (spread (meanCol y))))
/-- The variance. -/
abbrev varCol (y : Full) : Col :=
  select (broadcastInDim S1x256x1 ![] bcast_S_S1x256x1 (cmpf (F := Ideal) (φ := .f32) .ogt countSca (lit 0x00000000#32)))
    (Host.divf (F := Ideal) (φ := .f32) (col (sqTotal y)) (num countSca)) (num (id (lit 0x7FC00000#32)))
/-- The normalized array, scaled and shifted. -/
abbrev normal (y : Full) (g be : Chan) : Full :=
  addf (F := Ideal) (φ := .f32) (mulf (F := Ideal) (φ := .f32)
    (Host.divf (F := Ideal) (φ := .f32) (subf (F := Ideal) (φ := .f32) y (spread (meanCol y)))
      (spread (Host.sqrt (F := Ideal) (φ := .f32) (addf (F := Ideal) (φ := .f32) (varCol y) (num (lit 0x3727C5AC#32))))))
    (spread (col g))) (spread (col be))

/-- A channel vector as a column, entry by entry. -/
theorem col_apply (v : Chan) (z : Fin 1) (o : Fin 256) (w : Fin 1) : col v (ix3 z o w) = v (ix1 o) :=
  broadcastInDim_apply _ bcast_S256_S1x256x1_1 v (ix3 z o w) (ix1 o) (fun a => match a with
    | ⟨0, _⟩ => by show o.val = if (256 : Nat) = 1 then 0 else o.val; rw [if_neg (by decide)])

/-- A column spread over batches and points, entry by entry. -/
theorem spread_apply (v : Col) (b : Fin 8) (o : Fin 256) (n : Fin 8192) : spread v (ix3 b o n) = v (ix3 0 o 0) :=
  broadcastInDim_apply _ bcast_S1x256x1_S8x256x8192_0_1_2 v (ix3 b o n) (ix3 0 o 0) (fun a => match a with
    | ⟨0, _⟩ => by show 0 = if (1 : Nat) = 1 then 0 else b.val; rw [if_pos rfl]
    | ⟨1, _⟩ => by show o.val = if (256 : Nat) = 1 then 0 else o.val; rw [if_neg (by decide)]
    | ⟨2, _⟩ => by show 0 = if (1 : Nat) = 1 then 0 else n.val; rw [if_pos rfl])

/-- A number spread over a column, entry by entry. -/
theorem num_apply {α : Type} (v : S_.Idx → α) (i : S1x256x1.Idx) :
    broadcastInDim S1x256x1 ![] bcast_S_S1x256x1 v i = v (fun a => a.elim0) :=
  broadcastInDim_apply _ bcast_S_S1x256x1 v i (fun a => a.elim0) (fun a => a.elim0)

/-- A float number spread over a column, entry by entry. -/
theorem litCol_apply (v : Sca) (i : S1x256x1.Idx) : num v i = v (fun a => a.elim0) := num_apply v i

/-- The indices of three axes are triples. -/
def triples : S8x256x8192.Idx ≃ Fin 8 × Fin 256 × Fin 8192 where
  toFun i := (i 0, i 1, i 2)
  invFun p := ix3 p.1 p.2.1 p.2.2
  left_inv i := (eq_ix3 i).symm
  right_inv _ := rfl

/-- A sum over the indices is a sum over each axis. -/
theorem sum_triples (f : S8x256x8192.Idx → EReal) : ∑ i, f i = ∑ b : Fin 8, ∑ o : Fin 256, ∑ n : Fin 8192, f (ix3 b o n) := by
  rw [← Equiv.sum_comp triples.symm f, Fintype.sum_prod_type]
  refine Finset.sum_congr rfl fun b _ => ?_
  rw [Fintype.sum_prod_type]
  rfl

/-- The sum over two axes, read at a channel. -/
theorem total_apply (y : Full) (o : Fin 256) : total y (ix1 o) = ∑ b : Fin 8, ∑ n : Fin 8192, y (ix3 b o n) := by
  unfold total Host.reduceAdd
  rw [Ideal.hostReduceAdd_def]
  unfold Ideal.hostReduceAdd
  have h0 : lit 0x00000000#32 (Shape.Idx.first h_S_) = (0 : EReal) := by
    show Ideal.ofBits .f32 0x00000000#32 = 0
    rw [word_zero]; rfl
  have hd : ∀ (b : Fin 8) (p : Fin 256) (n : Fin 8192),
      reducesTo_S8x256x8192_S256_d0_2.drop (ix3 b p n) = ix1 o ↔ p = o := fun b p n => by
    constructor
    · intro h
      exact congrFun h 0
    · rintro rfl
      exact eq_ix1 _
  rw [h0, zero_add, Finset.sum_filter, sum_triples]
  refine Finset.sum_congr rfl fun b _ => ?_
  rw [Finset.sum_comm]
  refine Finset.sum_congr rfl fun n _ => ?_
  simp only [hd]
  rw [Finset.sum_ite_eq' Finset.univ o, if_pos (Finset.mem_univ _)]

variable {y : Full} {r : Fin 8 → Fin 256 → Fin 8192 → ℝ}

/-- The mean of real numbers. -/
theorem meanCol_apply (h : ∀ b o n, y (ix3 b o n) = (r b o n : EReal)) (z : Fin 1) (o : Fin 256) (w : Fin 1) :
    meanCol y (ix3 z o w) = (mean r o : EReal) := by
  show Ideal.div (col (total y) (ix3 z o w)) (num _ (ix3 z o w)) = _
  rw [col_apply, total_apply, litCol_apply]
  show Ideal.div _ (Ideal.ofBits .f32 0x47800000#32) = _
  simp only [h]
  rw [word_count]
  simp only [← coe_sum]
  exact div_coe _ _ (by norm_num)

/-- The number of points that the variance divides by is 65536. -/
theorem countSca_eq (i : S_.Idx) : countSca i = ((65536 : ℝ) : EReal) := by
  show Ideal.ofBits .f32 0x47800000#32 - (((((0#32 : BitVec 32).toInt : ℤ) : ℝ)) : EReal) = _
  rw [word_count, ← EReal.coe_sub]
  simp

/-- The variance of real numbers. -/
theorem varCol_apply (h : ∀ b o n, y (ix3 b o n) = (r b o n : EReal)) (z : Fin 1) (o : Fin 256) (w : Fin 1) :
    varCol y (ix3 z o w) = (var r o : EReal) := by
  have hc : broadcastInDim S1x256x1 ![] bcast_S_S1x256x1
      (cmpf (F := Ideal) (φ := .f32) .ogt countSca (lit 0x00000000#32)) (ix3 z o w) = 1#1 := by
    rw [num_apply]
    show Ideal.cmp .ogt (countSca _) (Ideal.ofBits .f32 0x00000000#32) = 1#1
    rw [countSca_eq, word_zero]
    unfold Ideal.cmp
    simp
  have hs : (mulf (F := Ideal) (φ := .f32) (subf (F := Ideal) (φ := .f32) y (spread (meanCol y))) (subf (F := Ideal) (φ := .f32) y (spread (meanCol y))) : Full)
      = fun i => (y i - spread (meanCol y) i) * (y i - spread (meanCol y) i) := rfl
  show Scalar.select (broadcastInDim S1x256x1 ![] bcast_S_S1x256x1
      (cmpf (F := Ideal) (φ := .f32) .ogt countSca (lit 0x00000000#32)) (ix3 z o w))
      (Ideal.div (col (sqTotal y) (ix3 z o w)) (num countSca (ix3 z o w))) _ = _
  rw [hc, select_one, col_apply, litCol_apply, countSca_eq]
  unfold sqTotal
  rw [hs, total_apply]
  simp only [spread_apply, meanCol_apply h, h, ← EReal.coe_sub, ← EReal.coe_mul, ← coe_sum]
  exact div_coe _ _ (by norm_num)

/-- The normalized array of real numbers. -/
theorem normal_apply (h : ∀ b o n, y (ix3 b o n) = (r b o n : EReal)) (g be : Chan) (γ : Fin 256 → ℝ)
    (hg : ∀ o, g (ix1 o) = (γ o : EReal)) (b : Fin 8) (o : Fin 256) (n : Fin 8192) :
    normal y g be (ix3 b o n) = (nrm r γ b o n : EReal) + be (ix1 o) := by
  show Ideal.div (y (ix3 b o n) - spread (meanCol y) (ix3 b o n)) (spread (Host.sqrt (F := Ideal) (φ := .f32) _) (ix3 b o n))
    * spread (col g) (ix3 b o n) + spread (col be) (ix3 b o n) = _
  simp only [spread_apply]
  rw [col_apply, col_apply, meanCol_apply h, h, hg]
  show Ideal.div _ (Ideal.sqrt (varCol y (ix3 0 o 0) + num _ (ix3 0 o 0))) * _ + _ = _
  rw [varCol_apply h, litCol_apply]
  show Ideal.div _ (Ideal.sqrt (_ + Ideal.ofBits .f32 0x3727C5AC#32)) * _ + _ = _
  rw [word_eps5, ← EReal.coe_add, Ideal.sqrt_coe,
    if_neg (not_lt.mpr (by have := var_nonneg r o; have := eps5_pos; linarith)), ← EReal.coe_sub,
    div_coe _ _ (sd_pos r o).ne', ← EReal.coe_mul]
  rfl

/-! ## The layers -/

variable {A : Args}

/-- The joined features. -/
theorem v35_eq (h : Sep A) (b : Fin 8) (n : Fin 8192) (k : Fin 384) :
    val_main_v35 (F := Ideal) (X0 A) (X1 A) (X2 A) (X3 A) (ix3 b n k) = (cat A b n k : EReal) := by
  unfold val_main_v35 cat
  split
  case isTrue hk =>
    exact concatenate_pair_apply_left (s₁ := S8x8192x128) (s₂ := S8x8192x256) (t := S8x8192x384) (2 : Fin 3) (X3 A) _ _ (ix3 b n k) rfl (ix3 b n ⟨k.val, hk⟩) (fun q => match q with
      | ⟨0, _⟩ => rfl
      | ⟨1, _⟩ => rfl
      | ⟨2, _⟩ => rfl)
  case isFalse hk =>
    refine (concatenate_pair_apply_right (s₁ := S8x8192x128) (s₂ := S8x8192x256) (t := S8x8192x384) (2 : Fin 3) (X3 A) _ _ (ix3 b n k) rfl rfl (ix3 b n ⟨k.val - 128, by omega⟩) (fun q => match q with
      | ⟨0, _⟩ => fun _ => rfl
      | ⟨1, _⟩ => fun _ => rfl
      | ⟨2, _⟩ => fun hq => absurd rfl hq) ?_).trans (v34_eq h b n _)
    show k.val - 128 + 128 = k.val
    omega

/-- The first layer's product. -/
theorem v41_eq (h : Sep A) (b : Fin 8) (o : Fin 256) (n : Fin 8192) :
    val_main_v41 (F := Ideal) (X0 A) (X1 A) (X2 A) (X3 A) (X4 A) (X5 A) (ix3 b o n) = (y1 A b o n : EReal) := by
  have e : idx_main_v38 (ix3 b o n) = ix3 b n o := eq_ix3 _
  have e1 : ∀ k, idx_main_v36 (lidx_main_v37 (ix3 b n o) k) = ix3 b n k := fun k => eq_ix3 _
  rw [val_main_v41_apply, val_main_v38_apply, e, val_main_v37_apply, val_main_v40_apply, val_main_v39_apply]
  simp only [val_main_v36_apply, e1, v35_eq h]
  show (∑ k : Fin 384, (cat A b n k : EReal) * (A.W1 o k : EReal)) + (A.b1 o : EReal) = _
  simp only [← EReal.coe_mul, ← coe_sum, ← EReal.coe_add]
  rfl

/-- The first layer's result. -/
theorem v60_eq (h : Sep A) (b : Fin 8) (o : Fin 256) (n : Fin 8192) :
    val_main_v60 (F := Ideal) (X0 A) (X1 A) (X2 A) (X3 A) (X4 A) (X5 A) (X6 A) (X7 A) (ix3 b o n) = (h1 A b o n : EReal) := by
  have e : val_main_v59 (F := Ideal) (X0 A) (X1 A) (X2 A) (X3 A) (X4 A) (X5 A) (X6 A) (X7 A)
      = normal (val_main_v41 (F := Ideal) (X0 A) (X1 A) (X2 A) (X3 A) (X4 A) (X5 A)) (X6 A) (X7 A) := rfl
  rw [val_main_v60_apply, e, normal_apply (v41_eq h) _ _ A.g1 (fun _ => rfl), val_main_call3_v0_apply, val_main_call3_cst_apply]
  show max ((nrm (y1 A) A.g1 b o n : EReal) + (A.be1 o : EReal)) (Ideal.ofBits .f32 0x00000000#32) = _
  rw [word_zero, ← EReal.coe_add]
  exact (EReal.coe_strictMono.monotone.map_max).symm

/-- The second layer's product. -/
theorem v65_eq (h : Sep A) (b : Fin 8) (o : Fin 256) (n : Fin 8192) :
    val_main_v65 (F := Ideal) (X0 A) (X1 A) (X2 A) (X3 A) (X4 A) (X5 A) (X6 A) (X7 A) (X8 A) (X9 A) (ix3 b o n)
      = (y2 A b o n : EReal) := by
  have e : idx_main_v62 (ix3 b o n) = ix3 b n o := eq_ix3 _
  have e1 : ∀ k, lidx_main_v61 (ix3 b n o) k = ix3 b k n := fun k => eq_ix3 _
  rw [val_main_v65_apply, val_main_v62_apply, e, val_main_v61_apply, val_main_v64_apply, val_main_v63_apply]
  simp only [e1, v60_eq h]
  show (∑ k : Fin 256, (h1 A b k n : EReal) * (A.W2 o k : EReal)) + (A.b2 o : EReal) = _
  simp only [← EReal.coe_mul, ← coe_sum, ← EReal.coe_add]
  rfl

/-- The reference's result. -/
theorem v84_eq (h : Sep A) :
    val_main_v84 (F := Ideal) (X0 A) (X1 A) (X2 A) (X3 A) (X4 A) (X5 A) (X6 A) (X7 A) (X8 A) (X9 A) (X10 A) (X11 A) = Out A := by
  funext i
  obtain ⟨b, o, n, rfl⟩ : ∃ (b : Fin 8) (o : Fin 256) (n : Fin 8192), i = ix3 b o n := ⟨i 0, i 1, i 2, eq_ix3 i⟩
  have e : val_main_v83 (F := Ideal) (X0 A) (X1 A) (X2 A) (X3 A) (X4 A) (X5 A) (X6 A) (X7 A) (X8 A) (X9 A) (X10 A) (X11 A)
      = normal (val_main_v65 (F := Ideal) (X0 A) (X1 A) (X2 A) (X3 A) (X4 A) (X5 A) (X6 A) (X7 A) (X8 A) (X9 A)) (X10 A) (X11 A) := rfl
  rw [val_main_v84_apply, e, normal_apply (v65_eq h) _ _ A.g2 (fun _ => rfl), val_main_call5_v0_apply, val_main_call5_cst_apply]
  show max ((nrm (y2 A) A.g2 b o n : EReal) + A.be2 o) (Ideal.ofBits .f32 0x00000000#32) = _
  rw [word_zero]
  rfl

end Cert.ReferenceIdeal.Read

end
-- ==== Proof.Pre.lean ====
/- What the precondition says: every argument but the last shift is real, and every query's third neighbour is nearer
   than its fourth. -/
module

public import proofs.«01_k».proof.Proof.Ref1
public import proofs.«01_k».proof.Proof.Gen.Pre_finite_and_separated

@[expose] public section

set_option maxRecDepth 16384

noncomputable section

open Idealize.ShloMosaic Idealize.ShloMosaic.ValueIdx
open scoped BigOperators

namespace Cert.Spec

open Cert.Near Cert.Pre_finite_and_separated Cert.Pre_finite_and_separated.Gen

/-- An array whose magnitudes compare below infinity holds real numbers. -/
theorem real_of_finite {s : Shape} (x : s.Idx → EReal) (hb : S_.BroadcastsInDim s (![] : Fin 0 → Fin s.rank))
    (h : cmpf (F := Ideal) (φ := .f32) .olt (Host.absf (F := Ideal) (φ := .f32) x)
      (broadcastInDim s ![] hb (constant (F := Ideal) S_ .f32 0x7F800000#32)) = fun _ => 1#1) (i : s.Idx) :
    (((x i).toReal : ℝ) : EReal) = x i := by
  have hi := congrFun h i
  have hc : broadcastInDim s ![] hb (constant (F := Ideal) S_ .f32 0x7F800000#32) i = Ideal.ofBits .f32 0x7F800000#32 := rfl
  have hi' : Ideal.cmp .olt (max (x i) (-(x i))) (broadcastInDim s ![] hb (constant (F := Ideal) S_ .f32 0x7F800000#32) i) = 1#1 := hi
  rw [hc, word_top] at hi'
  have hlt : max (x i) (-(x i)) < ⊤ := by
    have := cmp_lt (max (x i) (-(x i))) ⊤
    rw [hi'] at this
    simpa using this.symm
  have h1 : x i ≠ ⊤ := fun e => by rw [e] at hlt; simp at hlt
  have h2 : x i ≠ ⊥ := fun e => by rw [e] at hlt; simp at hlt
  exact EReal.coe_toReal h1 h2

/-- The sort's comparator orders extended reals. -/
theorem comparator_eq (x y : EReal) : comparator_f32_d2 (F := Ideal) x y = Ideal.cmp .olt x y :=
  Cert.ReferenceIdeal.Read.comparator_eq x y 0#32 0#32

/-- A sort along the last of three axes reads its operand at the sorted position. -/
theorem sort_last {α : Type} (cmp : α → α → BitVec 1) (x : S8x8192x1024.Idx → α) (b : Fin 8) (n : Fin 8192) (k : Fin 1024) :
    Host.sort S8x8192x1024 2 cmp x (ix3 b n k)
      = x (ix3 b n (sortedFrom (fun q q' => cmp (x (ix3 b n q)) (x (ix3 b n q')) == 1#1) k)) := by
  have ha : ∀ q : Fin 1024, Shape.Idx.along (s := S8x8192x1024) (ix3 b n k) (2 : Fin 3) q = ix3 b n q := fun q => by
    funext a
    match a with
    | ⟨0, _⟩ => rfl
    | ⟨1, _⟩ => rfl
    | ⟨2, _⟩ => rfl
  unfold Host.sort
  rw [dif_pos (show 2 < S8x8192x1024.rank by decide)]
  refine (congrArg x (ha _)).trans ?_
  refine congrArg (fun f => x (ix3 b n (sortedFrom f k))) ?_
  funext q q'
  rw [← ha q, ← ha q']
  rfl

variable (x0 : (⟨3, ![8, 1024, 3]⟩ : Shape).Idx → EReal) (x1 : (⟨3, ![8, 1024, 256]⟩ : Shape).Idx → EReal)
  (x2 : (⟨3, ![8, 8192, 3]⟩ : Shape).Idx → EReal) (x3 : (⟨3, ![8, 8192, 128]⟩ : Shape).Idx → EReal)
  (x4 : (⟨2, ![256, 384]⟩ : Shape).Idx → EReal) (x5 x6 x7 : (⟨1, ![256]⟩ : Shape).Idx → EReal)
  (x8 : (⟨2, ![256, 256]⟩ : Shape).Idx → EReal) (x9 x10 x11 : (⟨1, ![256]⟩ : Shape).Idx → EReal)

/-- The arrays' real entries. -/
def argsOf : Args where
  xf b s k := (x0 (ix3 b s k)).toReal
  ff b s c := (x1 (ix3 b s c)).toReal
  xl b n k := (x2 (ix3 b n k)).toReal
  fl b n c := (x3 (ix3 b n c)).toReal
  W1 o k := (x4 (ix2 o k)).toReal
  b1 o := (x5 (ix1 o)).toReal
  g1 o := (x6 (ix1 o)).toReal
  be1 o := (x7 (ix1 o)).toReal
  W2 o k := (x8 (ix2 o k)).toReal
  b2 o := (x9 (ix1 o)).toReal
  g2 o := (x10 (ix1 o)).toReal
  be2 o := x11 (ix1 o)

/-- Arrays of which the precondition holds are the arrays of some real entries, separated. -/
theorem read_pre
    (h : (Cert.Pre_finite_and_separated.fn (F := Ideal) x0 x1 x2 x3 x4 x5 x6 x7 x8 x9 x10 x11).1 = (fun _ => 1#1)
      ∧ (Cert.Pre_finite_and_separated.fn (F := Ideal) x0 x1 x2 x3 x4 x5 x6 x7 x8 x9 x10 x11).2.1 = (fun _ => 1#1)
      ∧ (Cert.Pre_finite_and_separated.fn (F := Ideal) x0 x1 x2 x3 x4 x5 x6 x7 x8 x9 x10 x11).2.2.1 = (fun _ => 1#1)
      ∧ (Cert.Pre_finite_and_separated.fn (F := Ideal) x0 x1 x2 x3 x4 x5 x6 x7 x8 x9 x10 x11).2.2.2.1 = (fun _ => 1#1)
      ∧ (Cert.Pre_finite_and_separated.fn (F := Ideal) x0 x1 x2 x3 x4 x5 x6 x7 x8 x9 x10 x11).2.2.2.2.1 = (fun _ => 1#1)
      ∧ (Cert.Pre_finite_and_separated.fn (F := Ideal) x0 x1 x2 x3 x4 x5 x6 x7 x8 x9 x10 x11).2.2.2.2.2.1 = (fun _ => 1#1)
      ∧ (Cert.Pre_finite_and_separated.fn (F := Ideal) x0 x1 x2 x3 x4 x5 x6 x7 x8 x9 x10 x11).2.2.2.2.2.2.1 = (fun _ => 1#1)
      ∧ (Cert.Pre_finite_and_separated.fn (F := Ideal) x0 x1 x2 x3 x4 x5 x6 x7 x8 x9 x10 x11).2.2.2.2.2.2.2.1 = (fun _ => 1#1)
      ∧ (Cert.Pre_finite_and_separated.fn (F := Ideal) x0 x1 x2 x3 x4 x5 x6 x7 x8 x9 x10 x11).2.2.2.2.2.2.2.2.1 = (fun _ => 1#1)
      ∧ (Cert.Pre_finite_and_separated.fn (F := Ideal) x0 x1 x2 x3 x4 x5 x6 x7 x8 x9 x10 x11).2.2.2.2.2.2.2.2.2.1 = (fun _ => 1#1)
      ∧ (Cert.Pre_finite_and_separated.fn (F := Ideal) x0 x1 x2 x3 x4 x5 x6 x7 x8 x9 x10 x11).2.2.2.2.2.2.2.2.2.2.1 = (fun _ => 1#1)
      ∧ (Cert.Pre_finite_and_separated.fn (F := Ideal) x0 x1 x2 x3 x4 x5 x6 x7 x8 x9 x10 x11).2.2.2.2.2.2.2.2.2.2.2 = (fun _ => 1#1)) :
    ∃ A : Args, Sep A ∧ x0 = X0 A ∧ x1 = X1 A ∧ x2 = X2 A ∧ x3 = X3 A ∧ x4 = X4 A ∧ x5 = X5 A ∧ x6 = X6 A ∧ x7 = X7 A
      ∧ x8 = X8 A ∧ x9 = X9 A ∧ x10 = X10 A ∧ x11 = X11 A := by
  obtain ⟨h0, h1, h2, h3, h4, h5, h6, h7, h8, h9, h10, h11⟩ := h
  have e0 : x0 = X0 (argsOf x0 x1 x2 x3 x4 x5 x6 x7 x8 x9 x10 x11) := funext fun i => by
    rw [eq_ix3 i]; exact (real_of_finite x0 _ h0 _).symm
  have e1 : x1 = X1 (argsOf x0 x1 x2 x3 x4 x5 x6 x7 x8 x9 x10 x11) := funext fun i => by
    rw [eq_ix3 i]; exact (real_of_finite x1 _ h1 _).symm
  have e2 : x2 = X2 (argsOf x0 x1 x2 x3 x4 x5 x6 x7 x8 x9 x10 x11) := funext fun i => by
    rw [eq_ix3 i]; exact (real_of_finite x2 _ h2 _).symm
  have e3 : x3 = X3 (argsOf x0 x1 x2 x3 x4 x5 x6 x7 x8 x9 x10 x11) := funext fun i => by
    rw [eq_ix3 i]; exact (real_of_finite x3 _ h3 _).symm
  have e4 : x4 = X4 (argsOf x0 x1 x2 x3 x4 x5 x6 x7 x8 x9 x10 x11) := funext fun i => by
    rw [eq_ix2 i]; exact (real_of_finite x4 _ h4 _).symm
  have e5 : x5 = X5 (argsOf x0 x1 x2 x3 x4 x5 x6 x7 x8 x9 x10 x11) := funext fun i => by
    rw [eq_ix1 i]; exact (real_of_finite x5 _ h5 _).symm
  have e6 : x6 = X6 (argsOf x0 x1 x2 x3 x4 x5 x6 x7 x8 x9 x10 x11) := funext fun i => by
    rw [eq_ix1 i]; exact (real_of_finite x6 _ h6 _).symm
  have e7 : x7 = X7 (argsOf x0 x1 x2 x3 x4 x5 x6 x7 x8 x9 x10 x11) := funext fun i => by
    rw [eq_ix1 i]; exact (real_of_finite x7 _ h7 _).symm
  have e8 : x8 = X8 (argsOf x0 x1 x2 x3 x4 x5 x6 x7 x8 x9 x10 x11) := funext fun i => by
    rw [eq_ix2 i]; exact (real_of_finite x8 _ h8 _).symm
  have e9 : x9 = X9 (argsOf x0 x1 x2 x3 x4 x5 x6 x7 x8 x9 x10 x11) := funext fun i => by
    rw [eq_ix1 i]; exact (real_of_finite x9 _ h9 _).symm
  have e10 : x10 = X10 (argsOf x0 x1 x2 x3 x4 x5 x6 x7 x8 x9 x10 x11) := funext fun i => by
    rw [eq_ix1 i]; exact (real_of_finite x10 _ h10 _).symm
  have e11 : x11 = X11 (argsOf x0 x1 x2 x3 x4 x5 x6 x7 x8 x9 x10 x11) := funext fun i => by
    rw [eq_ix1 i]; rfl
  generalize argsOf x0 x1 x2 x3 x4 x5 x6 x7 x8 x9 x10 x11 = A at e0 e1 e2 e3 e4 e5 e6 e7 e8 e9 e10 e11
  refine ⟨A, fun b n => ?_, e0, e1, e2, e3, e4, e5, e6, e7, e8, e9, e10, e11⟩
  have hs : ∀ k : Fin 1024, Host.sort S8x8192x1024 2 (comparator_f32_d2 (F := Ideal))
      (Cert.ReferenceIdeal.Read.val_main_v12 (F := Ideal) (X0 A) (X2 A)) (ix3 b n k)
      = (dist A b n (perm A b n k) : EReal) := fun k => by
    rw [sort_last]
    simp only [comparator_eq, cmp_lt, Cert.ReferenceIdeal.Read.v12_eq, EReal.coe_lt_coe_iff]
    rfl
  have h : cmpf (F := Ideal) (φ := .f32) .olt
      (extractStridedSlice S8x8192x1 ![0, 0, 2] (Host.sort S8x8192x1024 2 (comparator_f32_d2 (F := Ideal))
        (Cert.ReferenceIdeal.Read.val_main_v12 (F := Ideal) x0 x2)) slices_S8x8192x1024_S8x8192x1_0_0_2)
      (extractStridedSlice S8x8192x1 ![0, 0, 3] (Host.sort S8x8192x1024 2 (comparator_f32_d2 (F := Ideal))
        (Cert.ReferenceIdeal.Read.val_main_v12 (F := Ideal) x0 x2)) slices_S8x8192x1024_S8x8192x1_0_0_3) = fun _ => 1#1 := h11
  rw [e0, e2] at h
  have hi : Ideal.cmp .olt
      (extractStridedSlice S8x8192x1 ![0, 0, 2] (Host.sort S8x8192x1024 2 (comparator_f32_d2 (F := Ideal))
        (Cert.ReferenceIdeal.Read.val_main_v12 (F := Ideal) (X0 A) (X2 A))) slices_S8x8192x1024_S8x8192x1_0_0_2 (ix3 b n 0))
      (extractStridedSlice S8x8192x1 ![0, 0, 3] (Host.sort S8x8192x1024 2 (comparator_f32_d2 (F := Ideal))
        (Cert.ReferenceIdeal.Read.val_main_v12 (F := Ideal) (X0 A) (X2 A))) slices_S8x8192x1024_S8x8192x1_0_0_3 (ix3 b n 0))
      = 1#1 := congrFun h (ix3 b n 0)
  rw [extractStridedSlice_apply ![0, 0, 2] _ slices_S8x8192x1024_S8x8192x1_0_0_2 (ix3 b n 0) (ix3 b n 2) (fun a => match a with
      | ⟨0, _⟩ => by show b.val = 0 + b.val; omega
      | ⟨1, _⟩ => by show n.val = 0 + n.val; omega
      | ⟨2, _⟩ => rfl),
    extractStridedSlice_apply ![0, 0, 3] _ slices_S8x8192x1024_S8x8192x1_0_0_3 (ix3 b n 0) (ix3 b n 3) (fun a => match a with
      | ⟨0, _⟩ => by show b.val = 0 + b.val; omega
      | ⟨1, _⟩ => by show n.val = 0 + n.val; omega
      | ⟨2, _⟩ => rfl), hs, hs] at hi
  have := cmp_lt (dist A b n (perm A b n 2) : EReal) (dist A b n (perm A b n 3) : EReal)
  rw [hi] at this
  simpa using this.symm

end Cert.Spec

end
-- ==== Proof.Ops.lean ====
/- Vector operations on two-axis blocks read at an index. -/
module

public import proofs.«01_k».proof.Proof.Spec
public import Idealize.ShloMosaic.Lib.ValueIdx
public import Idealize.ShloMosaic.Lib.MatmulPlain
public import Idealize.ShloMosaic.Lib.Pipeline.Value
public import Idealize.ShloMosaic.PureOps.Ideal.Laws

@[expose] public section

noncomputable section

open Idealize.ShloMosaic Idealize.ShloMosaic.ValueIdx
open scoped BigOperators

namespace Cert.Ops

/-- The constants the search uses. -/
theorem lit_zero : Ideal.ofBits .f32 0x00000000#32 = (0 : EReal) := Cert.Spec.word_zero
/-- The word of one. -/
theorem lit_one : Ideal.ofBits .f32 0x3F800000#32 = (1 : EReal) := Cert.Spec.word_one

open Cert.Near

variable {α : Type} {R C D : ℕ}

/-- A vector as a column. -/
theorem col_apply (x : (⟨1, ![R]⟩ : Shape).Idx → α) (h) (r : Fin R) (z : Fin 1) :
    shapeCast ⟨2, ![R, 1]⟩ x h (ix2 r z) = x (ix1 r) :=
  shapeCast_apply _ _ _ _ (by
    rw [Shape.rowMajor_val_two, Shape.rowMajor_val_one]
    show r.val = r.val * 1 + z.val
    omega)

/-- A vector as a row. -/
theorem row_apply (x : (⟨1, ![C]⟩ : Shape).Idx → α) (h) (z : Fin 1) (c : Fin C) :
    shapeCast ⟨2, ![1, C]⟩ x h (ix2 z c) = x (ix1 c) :=
  shapeCast_apply _ _ _ _ (by
    rw [Shape.rowMajor_val_two, Shape.rowMajor_val_one]
    show c.val = z.val * C + c.val
    rw [Fin.val_eq_zero z]; omega)

/-- A vector as a row of a block with one row. -/
theorem row3_apply (x : (⟨1, ![C]⟩ : Shape).Idx → α) (h) (y z : Fin 1) (c : Fin C) :
    shapeCast ⟨3, ![1, 1, C]⟩ x h (ix3 y z c) = x (ix1 c) :=
  shapeCast_apply _ _ _ _ (by
    rw [Shape.rowMajor_val_three, Shape.rowMajor_val_one]
    show c.val = (y.val * 1 + z.val) * C + c.val
    rw [Fin.val_eq_zero z, Fin.val_eq_zero y]; omega)

/-- A row as a vector. -/
theorem unrow_apply (x : (⟨2, ![1, C]⟩ : Shape).Idx → α) (h) (c : Fin C) :
    shapeCast ⟨1, ![C]⟩ x h (ix1 c) = x (ix2 0 c) :=
  shapeCast_apply _ _ _ _ (by
    rw [Shape.rowMajor_val_two, Shape.rowMajor_val_one]
    show 0 * C + c.val = c.val
    omega)

/-- A block without its leading unit axis. -/
theorem drop_apply (x : (⟨3, ![1, R, C]⟩ : Shape).Idx → α) (h) (r : Fin R) (c : Fin C) :
    shapeCast ⟨2, ![R, C]⟩ x h (ix2 r c) = x (ix3 0 r c) :=
  shapeCast_apply _ _ _ _ (by
    rw [Shape.rowMajor_val_two, Shape.rowMajor_val_three]
    show (0 * R + r.val) * C + c.val = r.val * C + c.val
    rw [Nat.zero_mul, Nat.zero_add])

/-- A block with a leading unit axis put back. -/
theorem add_apply (x : (⟨2, ![R, C]⟩ : Shape).Idx → α) (h) (z : Fin 1) (r : Fin R) (c : Fin C) :
    shapeCast ⟨3, ![1, R, C]⟩ x h (ix3 z r c) = x (ix2 r c) :=
  shapeCast_apply _ _ _ _ (by
    rw [Shape.rowMajor_val_two, Shape.rowMajor_val_three]
    show r.val * C + c.val = (z.val * R + r.val) * C + c.val
    rw [Fin.val_eq_zero z, Nat.zero_mul, Nat.zero_add])

/-- A column repeated along the rows. -/
theorem spreadCol_apply (x : (⟨2, ![R, 1]⟩ : Shape).Idx → α) (h) (r : Fin R) (c : Fin C) :
    broadcastTo ⟨2, ![R, C]⟩ x h (ix2 r c) = x (ix2 r 0) :=
  broadcastTo_apply _ _ _ _ fun a => by
    match a with
    | ⟨0, _⟩ =>
      show r.val = if R = 1 then 0 else r.val
      split
      · have := r.isLt; omega
      · rfl
    | ⟨1, _⟩ => rfl

/-- A row repeated along the columns. -/
theorem spreadRow_apply (x : (⟨2, ![1, C]⟩ : Shape).Idx → α) (h) (r : Fin R) (c : Fin C) :
    broadcastTo ⟨2, ![R, C]⟩ x h (ix2 r c) = x (ix2 0 c) :=
  broadcastTo_apply _ _ _ _ fun a => by
    match a with
    | ⟨0, _⟩ => rfl
    | ⟨1, _⟩ =>
      show c.val = if C = 1 then 0 else c.val
      split
      · have := c.isLt; omega
      · rfl

/-- A run of columns cut out. -/
theorem cut_apply (o : ℕ) (x : (⟨2, ![R, C]⟩ : Shape).Idx → α) (h) (r : Fin R) (d : Fin D) (hd : d.val + o < C) :
    extractStridedSlice ⟨2, ![R, D]⟩ ![0, o] x h (ix2 r d) = x (ix2 r ⟨d.val + o, hd⟩) :=
  extractStridedSlice_apply _ _ _ _ _ fun a => by
    match a with
    | ⟨0, _⟩ => show r.val = 0 + r.val; omega
    | ⟨1, _⟩ => show d.val + o = o + d.val; omega

/-- A run of rows cut out. -/
theorem cutRow_apply {Q : ℕ} (o : ℕ) (x : (⟨2, ![R, C]⟩ : Shape).Idx → α) (h) (r : Fin Q) (d : Fin C) (hd : r.val + o < R) :
    extractStridedSlice ⟨2, ![Q, C]⟩ ![o, 0] x h (ix2 r d) = x (ix2 ⟨r.val + o, hd⟩ d) :=
  extractStridedSlice_apply _ _ _ _ _ fun a => by
    match a with
    | ⟨0, _⟩ => show r.val + o = o + r.val; omega
    | ⟨1, _⟩ => show d.val = 0 + d.val; omega

/-- The sum along a row. -/
theorem rowSum_apply (x : FVec Ideal ⟨2, ![R, C]⟩ .f32) (h hφ hacc) (r : Fin R) :
    multiReduction .add [1] ⟨1, ![R]⟩ x 0x00000000#32 h hφ hacc (ix1 r) = ∑ c : Fin C, x (ix2 r c) := by
  rw [Ideal.multiReduction_add_single]
  refine Finset.sum_congr rfl fun c _ => congrArg x ?_
  funext a
  match a with
  | ⟨0, _⟩ => rfl
  | ⟨1, _⟩ => rfl

/-- The least entry of a row. -/
theorem rowMin_apply (x : FVec Ideal ⟨2, ![R, C]⟩ .f32) (h hφ hacc) (r : Fin R) :
    multiReduction .minimumf [1] ⟨1, ![R]⟩ x 0x7F800000#32 h hφ hacc (ix1 r) = least fun c : Fin C => x (ix2 r c) := by
  rw [multiReduction_minimumf_eq_fold]
  refine (h.fold_filter_drop_single _ _ x (ix1 r)).trans ?_
  have e : (x ∘ h.lift (ix1 r)) = fun c : Fin C => x (ix2 r c) := by
    funext c
    refine congrArg x ?_
    funext a
    match a with
    | ⟨0, _⟩ => rfl
    | ⟨1, _⟩ => rfl
  rw [e]
  show Finset.fold min (Ideal.ofBits .f32 0x7F800000#32) _ _ = _
  rw [Cert.Spec.word_top]
  rfl

/-- A one-bit word from a decision. -/
theorem select_ofBool {β : Type} (p : Prop) [Decidable p] (x y : β) :
    Scalar.select (BitVec.ofBool (decide p)) x y = if p then x else y := by
  by_cases h : p
  · simp [h, Scalar.select]
  · simp [h, Scalar.select]

/-- Both of two decisions. -/
theorem and_ofBool (p q : Prop) [Decidable p] [Decidable q] :
    BitVec.ofBool (decide p) &&& BitVec.ofBool (decide q) = BitVec.ofBool (decide (p ∧ q)) := by
  by_cases hp : p <;> by_cases hq : q <;> simp [hp, hq]

/-- Equality, less-than, greater-than and at-most as decisions. -/
theorem cmpf_oeq (x y : FVec Ideal ⟨2, ![R, C]⟩ .f32) (i) : cmpf .oeq x y i = BitVec.ofBool (decide (x i = y i)) := by
  show Ideal.cmp .oeq (x i) (y i) = _
  simp [Ideal.cmp]
/-- The comparison "greater than", entry by entry. -/
theorem cmpf_ogt (x y : FVec Ideal ⟨2, ![R, C]⟩ .f32) (i) : cmpf .ogt x y i = BitVec.ofBool (decide (y i < x i)) := by
  show Ideal.cmp .ogt (x i) (y i) = _
  simp [Ideal.cmp]
/-- The comparison "at most", entry by entry. -/
theorem cmpf_ole (x y : FVec Ideal ⟨2, ![R, C]⟩ .f32) (i) : cmpf .ole x y i = BitVec.ofBool (decide (x i ≤ y i)) := by
  show Ideal.cmp .ole (x i) (y i) = _
  simp [Ideal.cmp]

/-- The first 128 of 384 positions, -/
def lo (k : Fin 128) : Fin 384 := ⟨k.val, by omega⟩
/-- and the other 256. -/
def hi (k : Fin 256) : Fin 384 := ⟨k.val + 128, by omega⟩

/-- A sum over all 384 columns is one over the first 128 and one over the other 256. -/
theorem sum_split (g : Fin 384 → ℝ) :
    ∑ k, g k = (∑ k : Fin 128, g (lo k)) + ∑ k : Fin 256, g (hi k) := by
  rw [show (∑ k, g k) = ∑ k : Fin (128 + 256), g k from rfl, Fin.sum_univ_add]
  refine congrArg₂ _ rfl (Finset.sum_congr rfl fun k _ => congrArg g (Fin.ext ?_))
  show 128 + k.val = k.val + 128
  omega

end Cert.Ops
-- ==== Proof.Search.lean ====
/- The kernel's search for the three nearest points, read row by row as three rounds of `Near.step`. -/
module

public import proofs.«01_k».proof.Proof.Ops
public import proofs.«01_k».proof.Proof.Gen.KernelIdeal.Skeleton

@[expose] public section

set_option maxRecDepth 16384

noncomputable section

open Idealize.ShloMosaic Idealize.ShloMosaic.ValueIdx
open scoped BigOperators

namespace Cert.KernelIdeal.Search

open Cert.KernelIdeal Cert.KernelIdeal.Gen Cert.Spec Cert.Near Cert.Ops

variable (v : FVec Ideal S4096x384 .f32) (j : Fin 4096)

/-- The candidates of row `j`. -/
def cand : Fin 384 → EReal := fun k => v (ix2 j k)

/-- The search's states on row `j`: at its start and after one, two and three rounds. -/
def st0 : State (Fin 384) := start (cand v j)
def st1 : State (Fin 384) := step (eps8 : EReal) (st0 v j)
def st2 : State (Fin 384) := step (eps8 : EReal) (st1 v j)
def st3 : State (Fin 384) := step (eps8 : EReal) (st2 v j)

/-- Counting the candidates that equal a column's entry, up to a column's entry. -/
theorem count_apply (w : IVec S4096x384 1) (p : State (Fin 384)) (m : FVec Ideal S4096x1 .f32) (h1 h2 h3 h4)
    (hw : ∀ k, w (ix2 j k) = BitVec.ofBool (decide (p.u k = least p.u))) (hm : m (ix2 j 0) = p.slots) :
    minimumf (shapeCast S4096x1 (multiReduction .add [1] S4096
      (select w (broadcast S4096x384 (Scalar.ofBits (F := Ideal) .f32 0x3F800000#32))
        (broadcast S4096x384 (Scalar.ofBits (F := Ideal) .f32 0x00000000#32))) 0x00000000#32 h1 h2 h3) h4) m (ix2 j 0) = taken p := by
  rw [minimumf_apply, hm]
  refine congrArg (min · _) ((col_apply _ _ j 0).trans ((rowSum_apply _ _ _ _ j).trans ?_))
  refine Finset.sum_congr rfl fun k _ => ?_
  show Scalar.select (w (ix2 j k)) (Ideal.ofBits .f32 0x3F800000#32) (Ideal.ofBits .f32 0x00000000#32) = _
  rw [hw, select_ofBool, lit_one, lit_zero]

/-- The least candidate as a column. -/
theorem least_apply (x : FVec Ideal S4096x384 .f32) (p : State (Fin 384)) (h1 h2 h3 h4) (hx : ∀ k, x (ix2 j k) = p.u k) :
    shapeCast S4096x1 (multiReduction .minimumf [1] S4096 x 0x7F800000#32 h1 h2 h3) h4 (ix2 j 0) = least p.u :=
  (col_apply _ _ j 0).trans ((rowMin_apply _ _ _ _ j).trans (congrArg least (funext hx)))

/-- Which candidates equal the least. -/
theorem equal_apply (x : FVec Ideal S4096x384 .f32) (m : FVec Ideal S4096x1 .f32) (p : State (Fin 384)) (h)
    (hx : ∀ k, x (ix2 j k) = p.u k) (hm : m (ix2 j 0) = least p.u) (k : Fin 384) :
    cmpf .oeq x (broadcastTo S4096x384 m h) (ix2 j k) = BitVec.ofBool (decide (p.u k = least p.u)) := by
  rw [cmpf_oeq, hx]
  refine congrArg (fun e => BitVec.ofBool (decide (p.u k = e))) ?_
  exact (spreadCol_apply _ _ j k).trans hm

/-- Whether anything may still be taken. -/
theorem open_apply (s : FVec Ideal S4096x1 .f32) (p : State (Fin 384)) (hs : s (ix2 j 0) = p.slots) :
    cmpf .ogt s (broadcast S4096x1 (Scalar.ofBits (F := Ideal) .f32 0x00000000#32)) (ix2 j 0)
      = BitVec.ofBool (decide (0 < p.slots)) := by
  rw [cmpf_ogt, hs]
  show BitVec.ofBool (decide (Ideal.ofBits .f32 0x00000000#32 < p.slots)) = _
  rw [lit_zero]

/-- The candidates after a round. -/
theorem next_apply (w : IVec S4096x384 1) (q : IVec S4096x1 1) (x : FVec Ideal S4096x384 .f32) (p : State (Fin 384)) (h)
    (hw : ∀ k, w (ix2 j k) = BitVec.ofBool (decide (p.u k = least p.u)))
    (hq : q (ix2 j 0) = BitVec.ofBool (decide (0 < p.slots))) (hx : ∀ k, x (ix2 j k) = p.u k) (k : Fin 384) :
    select (andi w (broadcastTo S4096x384 q h)) (broadcast S4096x384 (Scalar.ofBits (F := Ideal) .f32 0x7F800000#32)) x (ix2 j k)
      = (step (eps8 : EReal) p).u k := by
  show Scalar.select (w (ix2 j k) &&& broadcastTo S4096x384 q h (ix2 j k)) (Ideal.ofBits .f32 0x7F800000#32) (x (ix2 j k)) = _
  rw [hw, show broadcastTo S4096x384 q h (ix2 j k) = q (ix2 j 0) from spreadCol_apply _ _ j k, hq, and_ofBool, select_ofBool, hx, word_top]
  rfl

/-- The slots left after a round. -/
theorem slots_apply (s t : FVec Ideal S4096x1 .f32) (p : State (Fin 384)) (hs : s (ix2 j 0) = p.slots) (ht : t (ix2 j 0) = taken p) :
    subf s t (ix2 j 0) = (step (eps8 : EReal) p).slots := by
  rw [subf_apply, hs, ht]
  rfl

/-- The sum of inverse distances after a round. -/
theorem norm_apply (n m t : FVec Ideal S4096x1 .f32) (p : State (Fin 384)) (hn : n (ix2 j 0) = p.norm)
    (hm : m (ix2 j 0) = least p.u) (ht : t (ix2 j 0) = taken p) :
    addf n (mulf (divf (broadcast S4096x1 (Scalar.ofBits (F := Ideal) .f32 0x3F800000#32))
      (addf m (broadcast S4096x1 (Scalar.ofBits (F := Ideal) .f32 0x322BCC77#32)))) t) (ix2 j 0)
      = (step (eps8 : EReal) p).norm := by
  rw [addf_apply, mulf_apply, divf_apply, addf_apply, hn, hm, ht]
  show p.norm + Ideal.div (Ideal.ofBits .f32 0x3F800000#32) (least p.u + Ideal.ofBits .f32 0x322BCC77#32) * taken p = _
  rw [lit_one, word_eps8]
  rfl

/-- The threshold after a round. -/
theorem thr_apply (q : IVec S4096x1 1) (m t : FVec Ideal S4096x1 .f32) (p : State (Fin 384))
    (hq : q (ix2 j 0) = BitVec.ofBool (decide (0 < p.slots))) (hm : m (ix2 j 0) = least p.u) (ht : t (ix2 j 0) = p.thr) :
    select q m t (ix2 j 0) = (step (eps8 : EReal) p).thr := by
  show Scalar.select (q (ix2 j 0)) (m (ix2 j 0)) (t (ix2 j 0)) = _
  rw [hq, hm, ht, select_ofBool]
  rfl

/-! The first two rounds, value by value. -/

/-- At the start three slots are open. -/
theorem pay7_apply : k0_pay7 (F := Ideal) (ix2 j 0) = (st0 v j).slots := word_three
/-- The first round's least entry. -/
theorem pay8_apply : k0_pay8 v (ix2 j 0) = least (st0 v j).u := least_apply j v (st0 v j) _ _ _ _ fun _ => rfl
/-- The first round's mask marks the entries equal to the least. -/
theorem pay9_apply (k : Fin 384) : k0_pay9 v (ix2 j k) = BitVec.ofBool (decide ((st0 v j).u k = least (st0 v j).u)) :=
  equal_apply j v _ (st0 v j) _ (fun _ => rfl) (pay8_apply v j) k
/-- The number of slots the first round takes. -/
theorem pay10_apply : k0_pay10 v (ix2 j 0) = taken (st0 v j) :=
  count_apply j _ (st0 v j) _ _ _ _ _ (pay9_apply v j) (pay7_apply v j)
/-- The first round's flag says whether a slot is open. -/
theorem pay11_apply : k0_pay11 (F := Ideal) (ix2 j 0) = BitVec.ofBool (decide (0 < (st0 v j).slots)) :=
  open_apply j _ (st0 v j) (pay7_apply v j)
/-- The threshold after the first round. -/
theorem pay12_apply : k0_pay12 v (ix2 j 0) = (st1 v j).thr :=
  thr_apply j _ _ _ (st0 v j) (pay11_apply v j) (pay8_apply v j) word_top
/-- The entries left after the first round. -/
theorem pay13_apply (k : Fin 384) : k0_pay13 v (ix2 j k) = (st1 v j).u k :=
  next_apply j _ _ _ (st0 v j) _ (pay9_apply v j) (pay11_apply v j) (fun _ => rfl) k
/-- The slots left after the first round. -/
theorem pay14_apply : k0_pay14 v (ix2 j 0) = (st1 v j).slots :=
  slots_apply j _ _ (st0 v j) (pay7_apply v j) (pay10_apply v j)
/-- The second round's least entry. -/
theorem pay15_apply : k0_pay15 v (ix2 j 0) = least (st1 v j).u := least_apply j _ (st1 v j) _ _ _ _ (pay13_apply v j)
/-- The second round's mask marks the entries equal to the least. -/
theorem pay16_apply (k : Fin 384) : k0_pay16 v (ix2 j k) = BitVec.ofBool (decide ((st1 v j).u k = least (st1 v j).u)) :=
  equal_apply j _ _ (st1 v j) _ (pay13_apply v j) (pay15_apply v j) k
/-- The number of slots the second round takes. -/
theorem pay17_apply : k0_pay17 v (ix2 j 0) = taken (st1 v j) :=
  count_apply j _ (st1 v j) _ _ _ _ _ (pay16_apply v j) (pay14_apply v j)
/-- The sum of inverse distances after the second round. -/
theorem pay18_apply : k0_pay18 v (ix2 j 0) = (st2 v j).norm :=
  norm_apply j _ _ _ (st1 v j) (norm_apply j _ _ _ (st0 v j) lit_zero (pay8_apply v j) (pay10_apply v j)) (pay15_apply v j)
    (pay17_apply v j)

/-- The third round and the weighted sum: at row `j` and channel `c`, the features weighted by the inverse distances of
    the points within the threshold, over the sum of inverse distances. -/
theorem pay19_apply (d : FVec Ideal S4096x1024 .f32) (f : FVec Ideal S1x1024x256 .f32) (c : Fin 256) :
    k0_pay19 d (k0_pay12 v) (k0_pay13 v) (k0_pay14 v) (k0_pay15 v) (k0_pay16 v) (k0_pay17 v) (k0_pay18 v) f (ix2 j c)
      = Ideal.div (∑ s : Fin 1024, (if d (ix2 j s) ≤ (st3 v j).thr then Ideal.div 1 (d (ix2 j s) + (eps8 : EReal)) else 0)
          * f (ix3 0 s c)) (st3 v j).norm := by
  have h92 := open_apply j _ (st1 v j) (pay14_apply v j)
  have h93 := thr_apply j _ _ _ (st1 v j) h92 (pay15_apply v j) (pay12_apply v j)
  have h97 := next_apply j _ _ _ (st1 v j) broadcasts_S4096x1_S4096x384 (pay16_apply v j) h92 (pay13_apply v j)
  have h98 := slots_apply j _ _ (st1 v j) (pay14_apply v j) (pay17_apply v j)
  have h100 := least_apply j _ (st2 v j) reduces_S4096x384_S4096 (.inl rfl) rfl shapeCasts_S4096_S4096x1 h97
  have h102 := equal_apply j _ _ (st2 v j) broadcasts_S4096x1_S4096x384 h97 h100
  have h108 := count_apply j _ (st2 v j) _ reduces_S4096x384_S4096 (.inl rfl) rfl shapeCasts_S4096_S4096x1 h102 h98
  have h114 := norm_apply j _ _ _ (st2 v j) (pay18_apply v j) h100 h108
  have h117 := thr_apply j _ _ _ (st2 v j) (open_apply j _ (st2 v j) h98) h100 h93
  unfold k0_pay19
  refine (divf_apply _ _ _).trans (congrArg₂ Ideal.div ?_ ?_)
  · refine (Ideal.matmul_plain_apply none _ _ _ j c).trans ?_
    rw [constant_apply, lit_zero, zero_add]
    refine Finset.sum_congr rfl fun s _ => congrArg₂ (· * ·) ?_ (drop_apply _ _ s c)
    show Scalar.select (cmpf .ole d _ (ix2 j s)) (Ideal.div (Ideal.ofBits .f32 0x3F800000#32) (d (ix2 j s) + Ideal.ofBits .f32 0x322BCC77#32))
      (Ideal.ofBits .f32 0x00000000#32) = _
    rw [cmpf_ole, select_ofBool, lit_one, lit_zero, word_eps8]
    rw [show broadcastTo S4096x1024 _ _ (ix2 j s) = (st3 v j).thr from (spreadCol_apply _ _ j s).trans h117]
  · exact (spreadCol_apply _ _ j c).trans h114

end Cert.KernelIdeal.Search
-- ==== Proof.K0.lean ====
/- The first kernel's body on one block: distances, the candidates kept, the interpolated features, the first product. -/
module

public import proofs.«01_k».proof.Proof.Search
public import proofs.«01_k».proof.Proof.Arrays

@[expose] public section

set_option maxRecDepth 16384

noncomputable section

open Idealize.ShloMosaic Idealize.ShloMosaic.ValueIdx
open scoped BigOperators

namespace Cert.KernelIdeal.K0

open Cert.KernelIdeal Cert.KernelIdeal.Gen Cert.Spec Cert.Near Cert.Ops Cert.KernelIdeal.Search

/-- The distances of query `j` of a block, where the block's rows and the points are known reals. -/
theorem pay5_apply (A : Args) (b : Fin 8) (n : Fin 8192) (v0 : FVec Ideal S1x4096x3 .f32) (v2 : FVec Ideal S1x1024x3 .f32)
    (j : Fin 4096) (h0 : ∀ k, v0 (ix3 0 j k) = (A.xl b n k : EReal)) (h2 : ∀ s k, v2 (ix3 0 s k) = (A.xf b s k : EReal)) (s : Fin 1024) :
    k0_pay5 (F := Ideal) v0 v2 (ix2 j s) = (dist A b n s : EReal) := by
  have e0 : ∀ k, shapeCast S4096x3 v0 shapeCasts_S1x4096x3_S4096x3 (ix2 j k) = (A.xl b n k : EReal) :=
    fun k => (drop_apply _ _ j k).trans (h0 k)
  have e2 : ∀ k, shapeCast S1024x3 v2 shapeCasts_S1x1024x3_S1024x3 (ix2 s k) = (A.xf b s k : EReal) :=
    fun k => (drop_apply _ _ s k).trans (h2 s k)
  unfold k0_pay5
  refine (addf_apply _ _ _).trans ((congrArg₂ (· + ·) ((addf_apply _ _ _).trans (congrArg₂ (· + ·) ((mulf_apply _ _ _).trans
    (congrArg₂ (· * ·) word_neg_two ((Ideal.matmul_transposedRhs_apply none _ _ _ j s)))) ((spreadCol_apply _ _ j s).trans ((col_apply _ _ j 0).trans
      (rowSum_apply _ _ _ _ j))))) ((spreadRow_apply _ _ j s).trans ((row_apply _ _ 0 s).trans (rowSum_apply _ _ _ _ s)))).trans ?_)
  simp only [truncf_apply, mulf_apply, e0, e2, constant_apply, word_zero]
  simp only [← EReal.coe_mul, ← coe_sum, ← EReal.coe_add, zero_add]
  rfl

/-! The tournament: each level keeps the least entries of the columns it folds together. -/

section
variable {D N : ℕ} (j : Fin 4096)

/-- The lesser of a column and the column `o` to its right. -/
theorem minCut (o : ℕ) (x : FVec Ideal ⟨2, ![4096, N]⟩ .f32) (g : ℕ → EReal) (hx : ∀ q : Fin N, x (ix2 j q) = g q.val) (h h')
    (hN : D + o ≤ N) (q : Fin D) :
    minimumf (F := Ideal) (φ := .f32) (extractStridedSlice ⟨2, ![4096, D]⟩ ![0, 0] x h) (extractStridedSlice ⟨2, ![4096, D]⟩ ![0, o] x h') (ix2 j q)
      = min (g q.val) (g (q.val + o)) := by
  rw [minimumf_apply, cut_apply 0 x h j q (by have := q.isLt; omega), cut_apply o x h' j q (by have := q.isLt; omega), hx, hx]
  rfl

/-- The greater of a column and the column `o` to its right. -/
theorem maxCut (o : ℕ) (x : FVec Ideal ⟨2, ![4096, N]⟩ .f32) (g : ℕ → EReal) (hx : ∀ q : Fin N, x (ix2 j q) = g q.val) (h h')
    (hN : D + o ≤ N) (q : Fin D) :
    maximumf (F := Ideal) (φ := .f32) (extractStridedSlice ⟨2, ![4096, D]⟩ ![0, 0] x h) (extractStridedSlice ⟨2, ![4096, D]⟩ ![0, o] x h') (ix2 j q)
      = max (g q.val) (g (q.val + o)) := by
  rw [maximumf_apply, cut_apply 0 x h j q (by have := q.isLt; omega), cut_apply o x h' j q (by have := q.isLt; omega), hx, hx]
  rfl

/-- The lesser of two columns. -/
theorem minTwo (x y : FVec Ideal ⟨2, ![4096, D]⟩ .f32) (g g' : ℕ → EReal) (hx : ∀ q : Fin D, x (ix2 j q) = g q.val)
    (hy : ∀ q : Fin D, y (ix2 j q) = g' q.val) (q : Fin D) :
    minimumf x y (ix2 j q) = min (g q.val) (g' q.val) := by
  rw [minimumf_apply, hx, hy]

/-- The greater of two columns. -/
theorem maxTwo (x y : FVec Ideal ⟨2, ![4096, D]⟩ .f32) (g g' : ℕ → EReal) (hx : ∀ q : Fin D, x (ix2 j q) = g q.val)
    (hy : ∀ q : Fin D, y (ix2 j q) = g' q.val) (q : Fin D) :
    maximumf x y (ix2 j q) = max (g q.val) (g' q.val) := by
  rw [maximumf_apply, hx, hy]

end

/-- Three blocks of columns side by side. -/
theorem concat3 (j : Fin 4096) (x y z : FVec Ideal S4096x128 .f32) (h) (k : Fin 384) :
    concatenate S4096x384 1 [⟨S4096x128, x⟩, ⟨S4096x128, y⟩, ⟨S4096x128, z⟩] h (ix2 j k)
      = if h1 : k.val < 128 then x (ix2 j ⟨k.val, h1⟩)
        else if h2 : k.val < 256 then y (ix2 j ⟨k.val - 128, by omega⟩) else z (ix2 j ⟨k.val - 256, by omega⟩) := by
  have hk := k.isLt
  split
  next h1 =>
    refine concatenate_apply_piece 1 [⟨S4096x128, x⟩, ⟨S4096x128, y⟩, ⟨S4096x128, z⟩] _ (ix2 j k) 0 (show 0 < 3 by decide) S4096x128 x rfl rfl 0 rfl
      (ix2 j ⟨k.val, h1⟩) (fun a ha => ?_) (Nat.zero_add _)
    match a with
    | ⟨0, _⟩ => rfl
    | ⟨1, _⟩ => exact absurd rfl ha
  next h1 =>
    split
    next h2 =>
      refine concatenate_apply_piece 1 [⟨S4096x128, x⟩, ⟨S4096x128, y⟩, ⟨S4096x128, z⟩] _ (ix2 j k) 1 (show 1 < 3 by decide) S4096x128 y rfl rfl 128 rfl
        (ix2 j ⟨k.val - 128, by omega⟩) (fun a ha => ?_) ?_
      · match a with
        | ⟨0, _⟩ => rfl
        | ⟨1, _⟩ => exact absurd rfl ha
      · show 128 + (k.val - 128) = k.val
        omega
    next h2 =>
      refine concatenate_apply_piece 1 [⟨S4096x128, x⟩, ⟨S4096x128, y⟩, ⟨S4096x128, z⟩] _ (ix2 j k) 2 (show 2 < 3 by decide) S4096x128 z rfl rfl 256 rfl
        (ix2 j ⟨k.val - 256, by omega⟩) (fun a ha => ?_) ?_
      · match a with
        | ⟨0, _⟩ => rfl
        | ⟨1, _⟩ => exact absurd rfl ha
      · show 256 + (k.val - 256) = k.val
        omega

/-- The candidates kept on row `j`. -/
theorem pay6_apply (v0 : FVec Ideal S1x4096x3 .f32) (v2 : FVec Ideal S1x1024x3 .f32) (j : Fin 4096) (f : ℕ → EReal)
    (hf : ∀ s : Fin 1024, k0_pay5 (F := Ideal) v0 v2 (ix2 j s) = f s.val) (k : Fin 384) :
    k0_pay6 (F := Ideal) v0 v2 (ix2 j k) = short f k := by
  have h21 := minCut (D := 512) j 512 _ f hf slices_S4096x1024_o0_0_S4096x512 slices_S4096x1024_o0_512_S4096x512 (by norm_num)
  have h24 := maxCut (D := 512) j 512 _ f hf slices_S4096x1024_o0_0_S4096x512 slices_S4096x1024_o0_512_S4096x512 (by norm_num)
  have h29 := maxCut (D := 256) j 256 _ (lo2 f) h21 slices_S4096x512_o0_0_S4096x256 slices_S4096x512_o0_256_S4096x256 (by norm_num)
  have h30 := minCut (D := 256) j 256 _ (hi2 f) h24 slices_S4096x512_o0_0_S4096x256 slices_S4096x512_o0_256_S4096x256 (by norm_num)
  have h31 := minCut (D := 256) j 256 _ (lo2 f) h21 slices_S4096x512_o0_0_S4096x256 slices_S4096x512_o0_256_S4096x256 (by norm_num)
  have h32 := minTwo j _ _ (m4 f) (n4 f) h29 h30
  have h33 := maxTwo j _ _ (m4 f) (n4 f) h29 h30
  have h38 := maxCut (D := 128) j 128 _ (a4 f) h31 slices_S4096x256_o0_0_S4096x128 slices_S4096x256_o0_128_S4096x128 (by norm_num)
  have h39 := minCut (D := 128) j 128 _ (b4 f) h32 slices_S4096x256_o0_0_S4096x128 slices_S4096x256_o0_128_S4096x128 (by norm_num)
  have h40 := minCut (D := 128) j 128 _ (a4 f) h31 slices_S4096x256_o0_0_S4096x128 slices_S4096x256_o0_128_S4096x128 (by norm_num)
  have h43 := minCut (D := 128) j 128 _ (c4 f) h33 slices_S4096x256_o0_0_S4096x128 slices_S4096x256_o0_128_S4096x128 (by norm_num)
  have h44 := minTwo j _ _ (m8 f) (n8 f) h38 h39
  have h45 := maxTwo j _ _ (m8 f) (n8 f) h38 h39
  have h46 := minTwo j _ _ (fun q => max (m8 f q) (n8 f q)) (fun q => min (c4 f q) (c4 f (q + 128))) h45 h43
  unfold k0_pay6
  refine (concat3 j _ _ _ _ k).trans ?_
  unfold short
  have hk := k.isLt
  by_cases h1 : k.val < 128
  · rw [dif_pos h1, if_pos h1]
    exact h40 ⟨k.val, h1⟩
  · rw [dif_neg h1, if_neg h1]
    by_cases h2 : k.val < 256
    · rw [dif_pos h2, if_pos h2]
      exact h44 ⟨k.val - 128, by omega⟩
    · rw [dif_neg h2, if_neg h2]
      exact h46 ⟨k.val - 256, by omega⟩

/-- A real-valued family over the points, continued by `⊤`. -/
def ext (d : Fin 1024 → ℝ) (i : ℕ) : EReal := if h : i < 1024 then (d ⟨i, h⟩ : EReal) else ⊤

/-- The continued family is the family itself at a point. -/
theorem ext_fin (d : Fin 1024 → ℝ) (s : Fin 1024) : ext d s.val = (d s : EReal) := dif_pos s.isLt
/-- The continued family lies above `⊥` everywhere. -/
theorem ext_bot (d : Fin 1024 → ℝ) (i : ℕ) : ⊥ < ext d i := by
  unfold ext
  split
  · exact EReal.bot_lt_coe _
  · exact bot_lt_top

/-- After three rounds over the candidates kept, the threshold selects the three nearest points and the sum is theirs. -/
theorem found {A : Args} (hA : Sep A) (b : Fin 8) (n : Fin 8192) (v : FVec Ideal S4096x384 .f32) (j : Fin 4096)
    (hv : ∀ k, v (ix2 j k) = short (ext (dist A b n)) k) :
    Finset.univ.filter (fun s => (dist A b n s : EReal) ≤ (st3 v j).thr) = near (dist A b n)
      ∧ (st3 v j).norm = (norm A b n : EReal) := by
  have hu : cand v j = short (ext (dist A b n)) := funext hv
  have hs := search (dist A b n) (short (ext (dist A b n))) eps8 (dist_pos A b n) (short_bot _ (ext_bot _))
    (fun θ hθ => by
      have e : (fun s : Fin 1024 => ext (dist A b n) s.val) = fun s => (dist A b n s : EReal) := funext (ext_fin _)
      have h := cnt_short (ext (dist A b n)) θ (by rw [e]; exact hθ)
      rw [h, e]) _ (count_third hA b n)
  rw [← hu] at hs
  have h1 := near_eq (dist A b n) (st3 v j).thr hs.1
  refine ⟨h1, hs.2.trans ?_⟩
  refine congrArg _ ?_
  exact Finset.sum_congr h1 fun _ _ => rfl

/-- The interpolated features of query `j`. -/
theorem interp_apply {A : Args} (hA : Sep A) (b : Fin 8) (n : Fin 8192) (v : FVec Ideal S4096x384 .f32) (d : FVec Ideal S4096x1024 .f32)
    (f : FVec Ideal S1x1024x256 .f32) (j : Fin 4096) (hv : ∀ k, v (ix2 j k) = short (ext (dist A b n)) k)
    (hd : ∀ s, d (ix2 j s) = (dist A b n s : EReal)) (hf : ∀ s c, f (ix3 0 s c) = (A.ff b s c : EReal)) (c : Fin 256) :
    k0_pay19 d (k0_pay12 v) (k0_pay13 v) (k0_pay14 v) (k0_pay15 v) (k0_pay16 v) (k0_pay17 v) (k0_pay18 v) f (ix2 j c)
      = (Spec.interp A b n c : EReal) := by
  obtain ⟨h1, h2⟩ := found hA b n v j hv
  rw [pay19_apply, h2]
  have e : ∀ s : Fin 1024, (if d (ix2 j s) ≤ (st3 v j).thr then Ideal.div 1 (d (ix2 j s) + (eps8 : EReal)) else 0) * f (ix3 0 s c)
      = ((if (dist A b n s : EReal) ≤ (st3 v j).thr then inv A b n s * A.ff b s c else 0 : ℝ) : EReal) := fun s => by
    rw [hd, hf]
    split
    · rw [← EReal.coe_add, show (1 : EReal) = ((1 : ℝ) : EReal) from rfl, div_coe _ _ (dist_pos A b n s).ne', ← EReal.coe_mul]
      rfl
    · rw [zero_mul]; rfl
  rw [Finset.sum_congr rfl fun s _ => e s, ← coe_sum, div_coe _ _ (norm_pos hA b n).ne', ← Finset.sum_filter, h1]
  refine congrArg _ ?_
  unfold Spec.interp
  rw [Finset.sum_div]
  exact Finset.sum_congr rfl fun s _ => by ring

/-- The first product at channel `o` and query `j`. -/
theorem pay1_apply (A : Args) (b : Fin 8) (n : Fin 8192) (v130 : FVec Ideal S4096x256 .f32) (v132 : FVec Ideal S256x128 .f32)
    (v134 : FVec Ideal S1x4096x128 .f32) (v138 : FVec Ideal S256x256 .f32) (v144 : FVec Ideal S256x1 .f32) (j : Fin 4096) (o : Fin 256)
    (h130 : ∀ c, v130 (ix2 j c) = (Spec.interp A b n c : EReal)) (h132 : ∀ k : Fin 128, v132 (ix2 o k) = (A.W1 o (lo k) : EReal))
    (h134 : ∀ k, v134 (ix3 0 j k) = (A.fl b n k : EReal)) (h138 : ∀ k : Fin 256, v138 (ix2 o k) = (A.W1 o (hi k) : EReal))
    (h144 : v144 (ix2 o 0) = (A.b1 o : EReal)) :
    k0_pay1 (F := Ideal) v130 v132 v134 v138 v144 (ix2 o j) = (y1 A b o n : EReal) := by
  have e134 : ∀ k, shapeCast S4096x128 v134 shapeCasts_S1x4096x128_S4096x128 (ix2 j k) = (A.fl b n k : EReal) :=
    fun k => (drop_apply _ _ j k).trans (h134 k)
  unfold k0_pay1
  refine (addf_apply _ _ _).trans ((congrArg₂ (· + ·) ((addf_apply _ _ _).trans (congrArg₂ (· + ·)
    (Ideal.matmul_transposedRhs_apply none _ _ _ o j) (Ideal.matmul_transposedRhs_apply none _ _ _ o j)))
    (spreadCol_apply _ _ o j)).trans ?_)
  simp only [truncf_apply, shapeCast_self, e134, h130, h132, h138, h144, constant_apply, word_zero]
  simp only [← EReal.coe_mul, ← coe_sum, ← EReal.coe_add, zero_add]
  refine congrArg _ ?_
  unfold y1
  rw [sum_split]
  refine congrArg (· + A.b1 o) (congrArg₂ (· + ·) (Finset.sum_congr rfl fun k _ => ?_) (Finset.sum_congr rfl fun k _ => ?_))
  · unfold cat
    rw [dif_pos (show (lo k).val < 128 from k.isLt), mul_comm]
    rfl
  · unfold cat
    rw [dif_neg (show ¬ (hi k).val < 128 from by show ¬ k.val + 128 < 128; omega), mul_comm]
    rfl

end Cert.KernelIdeal.K0
-- ==== Proof.Body.lean ====
/- What each kernel's body leaves in its output blocks, from input blocks of known reals. -/
module

public import proofs.«01_k».proof.Proof.K0
public import proofs.«01_k».proof.Proof.Gen.KernelIdeal.Frame

@[expose] public section

set_option maxRecDepth 16384

noncomputable section

open Idealize.ShloMosaic Idealize.ShloMosaic.ValueIdx
open scoped BigOperators

namespace Cert.KernelIdeal.Body

open Cert.KernelIdeal Cert.KernelIdeal.Gen Cert.Spec Cert.Near Cert.Ops Cert.KernelIdeal.K0

/-- Two zero offsets are the zero offset. -/
theorem hz2 : (![0, 0] : Fin 2 → Nat) = fun _ => 0 := funext fun a => by fin_cases a <;> rfl
/-- Three zero offsets are the zero offset. -/
theorem hz3 : (![0, 0, 0] : Fin 3 → Nat) = fun _ => 0 := funext fun a => by fin_cases a <;> rfl

/-- A block's row `j` of tile `t` is row `4096 t + j` of the array. -/
def row (t : Fin 2) (j : Fin 4096) : Fin 8192 := ⟨t.val * 4096 + j.val, by omega⟩

/-- The tile's sums of a channel: the values' in row 0, their squares' in row 1. -/
def stat (y : Fin 8 → Fin 256 → Fin 8192 → ℝ) (b : Fin 8) (t : Fin 2) (q : Fin 2) (o : Fin 256) : ℝ :=
  if q = 0 then ∑ j, y b o (row t j) else ∑ j, y b o (row t j) * y b o (row t j)

/-- The sums along the rows of a block, stored as one row. -/
theorem sums_apply (x : FVec Ideal S256x4096 .f32) (f : Fin 256 → Fin 4096 → ℝ) (h1 h2 h3 h4)
    (hx : ∀ o j, x (ix2 o j) = (f o j : EReal)) (z z' : Fin 1) (o : Fin 256) :
    shapeCast S1x1x256 (multiReduction .add [1] S256 x 0x00000000#32 h1 h2 h3) h4 (ix3 z z' o) = ((∑ j, f o j : ℝ) : EReal) := by
  refine (row3_apply _ _ z z' o).trans ((rowSum_apply _ _ _ _ o).trans ?_)
  rw [coe_sum]
  exact Finset.sum_congr rfl fun j _ => hx o j

/-- The two stored rows together, from the two payloads. -/
theorem stats_canon (y : Fin 8 → Fin 256 → Fin 8192 → ℝ) (b : Fin 8) (t : Fin 2) (p q : FVec Ideal S1x1x256 .f32)
    (hp : ∀ z z' o, p (ix3 z z' o) = ((∑ j, y b o (row t j) * y b o (row t j) : ℝ) : EReal))
    (hq : ∀ z z' o, q (ix3 z z' o) = ((∑ j, y b o (row t j) : ℝ) : EReal)) (i : S1x2x256.Idx) :
    View.canon (Val := Elt Ideal) ([⟨r0_9, p⟩, ⟨r0_8, q⟩] : List (View.Piece (Elt Ideal) S1x2x256 .f32)) i
      = (stat y b t (i 1) (i 2) : EReal) := by
  refine View.canon_apply_of_pieces (fun i : S1x2x256.Idx => ((stat y b t (i 1) (i 2) : ℝ) : EReal)) _ ?_ i (cover0_8 (F := Ideal) p q i)
  intro pc hpc x
  rcases List.mem_cons.mp hpc with rfl | hpc
  · refine ((congrArg p (eq_ix3 x)).trans (hp (x 0) (x 1) (x 2))).trans ?_
    have e1 : r0_9.emb x 1 = (1 : Fin 2) := Fin.ext (by
      have h : (x 1).val < 1 := (x 1).isLt
      show 1 + 1 * (x 1).val = 1
      omega)
    have e2 : r0_9.emb x 2 = x 2 := Fin.ext (by show 0 + 1 * (x 2).val = (x 2).val; omega)
    show _ = ((stat y b t (r0_9.emb x 1) (r0_9.emb x 2) : ℝ) : EReal)
    rw [e1, e2]
    rfl
  · rcases List.mem_singleton.mp hpc with rfl
    refine ((congrArg q (eq_ix3 x)).trans (hq (x 0) (x 1) (x 2))).trans ?_
    have e1 : r0_8.emb x 1 = (0 : Fin 2) := Fin.ext (by
      have h : (x 1).val < 1 := (x 1).isLt
      show 0 + 1 * (x 1).val = 0
      omega)
    have e2 : r0_8.emb x 2 = x 2 := Fin.ext (by show 0 + 1 * (x 2).val = (x 2).val; omega)
    show _ = ((stat y b t (r0_8.emb x 1) (r0_8.emb x 2) : ℝ) : EReal)
    rw [e1, e2]
    rfl

section K0

variable {A : Args} (hA : Sep A) (b : Fin 8) (t : Fin 2)
  (x0 : FVec Ideal S1x4096x3 .f32) (x1 : FVec Ideal S1x1024x3 .f32) (x2 : FVec Ideal S1x1024x256 .f32) (x3 : FVec Ideal S1x4096x128 .f32)
  (x4 : FVec Ideal S256x128 .f32) (x5 : FVec Ideal S256x256 .f32) (x6 : FVec Ideal S256x1 .f32)
  (h0 : ∀ j k, x0 (ix3 0 j k) = (A.xl b (row t j) k : EReal)) (h1 : ∀ s k, x1 (ix3 0 s k) = (A.xf b s k : EReal))
  (h2 : ∀ s c, x2 (ix3 0 s c) = (A.ff b s c : EReal)) (h3 : ∀ j k, x3 (ix3 0 j k) = (A.fl b (row t j) k : EReal))
  (h4 : ∀ o (k : Fin 128), x4 (ix2 o k) = (A.W1 o (lo k) : EReal))
  (h5 : ∀ o (k : Fin 256), x5 (ix2 o k) = (A.W1 o (hi k) : EReal)) (h6 : ∀ o, x6 (ix2 o 0) = (A.b1 o : EReal))

include hA h0 h1 h2 h3 h4 h5 h6

/-- The first product's block. -/
theorem y1_block (o : Fin 256) (j : Fin 4096) :
    k0_pay1 (F := Ideal) (k0_pay22 x0 x1 x2 x3 x4 x5 x6) (k0_pay23 x0 x1 x2 x3 x4 x5 x6) (View.ld x3 r0_4) (View.ld x5 r0_5)
      (View.ld x6 r0_6) (ix2 o j) = (y1 A b o (row t j) : EReal) := by
  unfold k0_pay22 k0_pay23 k0_pay21
  have e0 : View.ld (Val := Elt Ideal) (e' := .f32) x0 r0_0 = x0 := View.ld_unit_zero hz3 _ _
  have e1 : View.ld (Val := Elt Ideal) (e' := .f32) x1 r0_1 = x1 := View.ld_unit_zero hz3 _ _
  have e2 : View.ld (Val := Elt Ideal) (e' := .f32) x2 r0_2 = x2 := View.ld_unit_zero hz3 _ _
  have e3 : View.ld (Val := Elt Ideal) (e' := .f32) x3 r0_4 = x3 := View.ld_unit_zero hz3 _ _
  have e4 : View.ld (Val := Elt Ideal) (e' := .f32) x4 r0_3 = x4 := View.ld_unit_zero hz2 _ _
  have e5 : View.ld (Val := Elt Ideal) (e' := .f32) x5 r0_5 = x5 := View.ld_unit_zero hz2 _ _
  have e6 : View.ld (Val := Elt Ideal) (e' := .f32) x6 r0_6 = x6 := View.ld_unit_zero hz2 _ _
  rw [e0, e1, e2, e3, e4, e5, e6]
  have hd := pay5_apply A b (row t j) x0 x1 j (h0 j) h1
  refine pay1_apply A b (row t j) _ _ _ _ _ j o (fun c => ?_) (fun k => ?_) (h3 j) (h5 o) (h6 o)
  · exact interp_apply hA b (row t j) _ _ _ j (fun k => pay6_apply x0 x1 j _ (fun s => (hd s).trans (ext_fin _ s).symm) k) hd h2 c
  · unfold k0_pay20
    rw [shapeCast_self]
    exact h4 o k

/-- The first kernel's result block, -/
theorem out0_7_apply (i : S1x256x4096.Idx) : out0_7 (F := Ideal) x0 x1 x2 x3 x4 x5 x6 i = (y1 A b (i 1) (row t (i 2)) : EReal) := by
  unfold out0_7
  rw [View.canon_unit_zero hz3, eq_ix3 i]
  exact (add_apply _ _ _ _ _).trans (y1_block hA b t x0 x1 x2 x3 x4 x5 x6 h0 h1 h2 h3 h4 h5 h6 _ _)

/-- and its block of sums. -/
theorem out0_8_apply (i : S1x2x256.Idx) : out0_8 (F := Ideal) x0 x1 x2 x3 x4 x5 x6 i = (stat (y1 A) b t (i 1) (i 2) : EReal) := by
  have hy := y1_block hA b t x0 x1 x2 x3 x4 x5 x6 h0 h1 h2 h3 h4 h5 h6
  unfold out0_8
  refine stats_canon (y1 A) b t _ _ (fun z z' o => ?_) (fun z z' o => ?_) i
  · exact sums_apply _ (fun o j => y1 A b o (row t j) * y1 A b o (row t j)) _ _ _ _
      (fun o j => by rw [mulf_apply, hy, ← EReal.coe_mul]) z z' o
  · exact sums_apply _ (fun o j => y1 A b o (row t j)) _ _ _ _ hy z z' o

end K0

/-- A channel's normalization applied to a block: scale, shift, and the positive part. -/
theorem scaled_apply (y : Fin 8 → Fin 256 → Fin 8192 → ℝ) (g : Fin 256 → ℝ) (be : Fin 256 → EReal) (b : Fin 8) (t : Fin 2)
    (x : FVec Ideal S1x256x4096 .f32) (sc sh : FVec Ideal S256x1 .f32) (h1 h2 h3 h4 h5)
    (hx : ∀ o j, x (ix3 0 o j) = (y b o (row t j) : EReal))
    (hsc : ∀ o, sc (ix2 o 0) = ((g o * (Real.sqrt (var y o + eps5))⁻¹ : ℝ) : EReal))
    (hsh : ∀ o, sh (ix2 o 0) = be o - ((mean y o * (g o * (Real.sqrt (var y o + eps5))⁻¹) : ℝ) : EReal)) (o : Fin 256) (j : Fin 4096) :
    maximumf (addf (mulf (shapeCast S256x4096 x h1) (broadcastTo S256x4096 (shapeCast S256x1 sc h2) h3))
      (broadcastTo S256x4096 (shapeCast S256x1 sh h4) h5)) (broadcast S256x4096 (Scalar.ofBits (F := Ideal) .f32 0x00000000#32)) (ix2 o j)
      = max ((nrm y g b o (row t j) : EReal) + be o) 0 := by
  rw [maximumf_apply, addf_apply, mulf_apply, shapeCast_self, shapeCast_self]
  refine congrArg₂ max ?_ lit_zero
  rw [← scale_shift]
  exact congrArg₂ (· + ·) (congrArg₂ (· * ·) ((drop_apply _ _ o j).trans (hx o j)) ((spreadCol_apply _ _ o j).trans (hsc o)))
    ((spreadCol_apply _ _ o j).trans (hsh o))

section K1

variable (A : Args) (b : Fin 8) (t : Fin 2)
  (x0 : FVec Ideal S1x256x4096 .f32) (x1 x2 : FVec Ideal S256x1 .f32) (x3 : FVec Ideal S256x256 .f32) (x4 : FVec Ideal S256x1 .f32)
  (h0 : ∀ o j, x0 (ix3 0 o j) = (y1 A b o (row t j) : EReal))
  (h1 : ∀ o, x1 (ix2 o 0) = ((A.g1 o * (Real.sqrt (var (y1 A) o + eps5))⁻¹ : ℝ) : EReal))
  (h2 : ∀ o, x2 (ix2 o 0) = (A.be1 o : EReal) - ((mean (y1 A) o * (A.g1 o * (Real.sqrt (var (y1 A) o + eps5))⁻¹) : ℝ) : EReal))
  (h3 : ∀ o k, x3 (ix2 o k) = (A.W2 o k : EReal)) (h4 : ∀ o, x4 (ix2 o 0) = (A.b2 o : EReal))

include h0 h1 h2 h3 h4

/-- The second product's block. -/
theorem y2_block (o : Fin 256) (j : Fin 4096) : k1_pay1 (F := Ideal) x0 x1 x2 x3 x4 (ix2 o j) = (y2 A b o (row t j) : EReal) := by
  have hs : ∀ k, _ = ((Spec.h1 A b k (row t j) : ℝ) : EReal) := fun k =>
    (scaled_apply (y1 A) A.g1 (fun o => (A.be1 o : EReal)) b t x0 x1 x2 shapeCasts_S1x256x4096_S256x4096 shapeCasts_S256x1_S256x1
      broadcasts_S256x1_S256x4096 shapeCasts_S256x1_S256x1 broadcasts_S256x1_S256x4096 h0 h1 h2 k j).trans (by
        rw [← EReal.coe_add]
        exact (EReal.coe_strictMono.monotone.map_max (a := nrm (y1 A) A.g1 b k (row t j) + A.be1 k) (b := 0)).symm)
  unfold k1_pay1
  refine (addf_apply _ _ _).trans ((congrArg₂ (· + ·) (Ideal.matmul_plain_apply none _ _ _ o j) ((spreadCol_apply _ _ o j).trans
    ((congrFun (shapeCast_self _ _) _).trans (h4 o)))).trans ?_)
  rw [constant_apply, word_zero]
  refine (congrArg (fun e => ((0 : ℝ) : EReal) + e + (A.b2 o : EReal)) (Finset.sum_congr rfl fun k _ =>
    congrArg₂ (· * ·) (h3 o k) (hs k))).trans ?_
  simp only [← EReal.coe_mul, ← coe_sum, ← EReal.coe_add, zero_add]
  refine congrArg _ ?_
  unfold y2
  exact congrArg (· + A.b2 o) (Finset.sum_congr rfl fun k _ => mul_comm _ _)

/-- The second kernel's result block, -/
theorem out1_5_apply (i : S1x256x4096.Idx) : out1_5 (F := Ideal) x0 x1 x2 x3 x4 i = (y2 A b (i 1) (row t (i 2)) : EReal) := by
  unfold out1_5
  rw [View.canon_unit_zero hz3, View.ld_unit_zero hz3, View.ld_unit_zero hz2, View.ld_unit_zero hz2, View.ld_unit_zero hz2,
    View.ld_unit_zero hz2, eq_ix3 i]
  exact (add_apply _ _ _ _ _).trans (y2_block A b t x0 x1 x2 x3 x4 h0 h1 h2 h3 h4 _ _)

/-- and its block of sums. -/
theorem out1_6_apply (i : S1x2x256.Idx) : out1_6 (F := Ideal) x0 x1 x2 x3 x4 i = (stat (y2 A) b t (i 1) (i 2) : EReal) := by
  have hy := y2_block A b t x0 x1 x2 x3 x4 h0 h1 h2 h3 h4
  unfold out1_6
  rw [View.ld_unit_zero hz3, View.ld_unit_zero hz2, View.ld_unit_zero hz2, View.ld_unit_zero hz2, View.ld_unit_zero hz2]
  refine stats_canon (y2 A) b t _ _ (fun z z' o => ?_) (fun z z' o => ?_) i
  · exact sums_apply _ (fun o j => y2 A b o (row t j) * y2 A b o (row t j)) _ _ _ _
      (fun o j => by rw [mulf_apply, hy, ← EReal.coe_mul]) z z' o
  · exact sums_apply _ (fun o j => y2 A b o (row t j)) _ _ _ _ hy z z' o

end K1

/-- The third kernel's result block. -/
theorem out2_3_apply (A : Args) (b : Fin 8) (t : Fin 2) (x0 : FVec Ideal S1x256x4096 .f32) (x1 x2 : FVec Ideal S256x1 .f32)
    (h0 : ∀ o j, x0 (ix3 0 o j) = (y2 A b o (row t j) : EReal))
    (h1 : ∀ o, x1 (ix2 o 0) = ((A.g2 o * (Real.sqrt (var (y2 A) o + eps5))⁻¹ : ℝ) : EReal))
    (h2 : ∀ o, x2 (ix2 o 0) = A.be2 o - ((mean (y2 A) o * (A.g2 o * (Real.sqrt (var (y2 A) o + eps5))⁻¹) : ℝ) : EReal))
    (i : S1x256x4096.Idx) : out2_3 (F := Ideal) x0 x1 x2 i = out A b (i 1) (row t (i 2)) := by
  unfold out2_3
  rw [View.canon_unit_zero hz3, View.ld_unit_zero hz3, View.ld_unit_zero hz2, View.ld_unit_zero hz2, eq_ix3 i]
  unfold k2_pay1
  exact (add_apply _ _ _ _ _).trans (scaled_apply (y2 A) A.g2 A.be2 b t x0 x1 x2 _ _ _ _ _ h0 h1 h2 _ _)

end Cert.KernelIdeal.Body
-- ==== Proof.Regions.lean ====
/- What each region leaves in its result arrays, from the contents of its operand arrays at entry. -/
module

public import proofs.«01_k».proof.Proof.Body

@[expose] public section

set_option maxRecDepth 16384

noncomputable section

open Idealize.ShloMosaic Idealize.ShloMosaic.ValueIdx Idealize.ShloMosaic.TcCoe
open scoped BigOperators

namespace Cert.KernelIdeal.Regions

open Cert.KernelIdeal Cert.KernelIdeal.Gen Cert.Spec Cert.Near Cert.Ops Cert.KernelIdeal.Body
open Idealize.ShloMosaic.Pipeline (Dat)

/-- The batch of a grid point `t`. -/
def pb (t : Fin 16) : Fin 8 := ⟨t.val / 2, by omega⟩
/-- The tile of a grid point `t`. -/
def pt (t : Fin 16) : Fin 2 := ⟨t.val % 2, by omega⟩

/-! ## Where each point's blocks sit -/

/-- Region 0: where window 0 lies at step `t`. -/
theorem at0_0 : ∀ t : Fin grid0.N, win0_0.index t 0 = t.val / 2 ∧ win0_0.index t 1 = t.val % 2 ∧ win0_0.index t 2 = 0 := by decide +kernel
/-- Region 0: where window 1 lies at step `t`. -/
theorem at0_1 : ∀ t : Fin grid0.N, win0_1.index t 0 = t.val / 2 ∧ win0_1.index t 1 = 0 ∧ win0_1.index t 2 = 0 := by decide +kernel
/-- Region 0: where window 2 lies at step `t`. -/
theorem at0_2 : ∀ t : Fin grid0.N, win0_2.index t 0 = t.val / 2 ∧ win0_2.index t 1 = 0 ∧ win0_2.index t 2 = 0 := by decide +kernel
/-- Region 0: where window 3 lies at step `t`. -/
theorem at0_3 : ∀ t : Fin grid0.N, win0_3.index t 0 = t.val / 2 ∧ win0_3.index t 1 = t.val % 2 ∧ win0_3.index t 2 = 0 := by decide +kernel
/-- Region 0: where window 4 lies at step `t`. -/
theorem at0_4 : ∀ t : Fin grid0.N, win0_4.index t 0 = 0 ∧ win0_4.index t 1 = 0 := by decide +kernel
/-- Region 0: where window 5 lies at step `t`. -/
theorem at0_5 : ∀ t : Fin grid0.N, win0_5.index t 0 = 0 ∧ win0_5.index t 1 = 0 := by decide +kernel
/-- Region 0: where window 6 lies at step `t`. -/
theorem at0_6 : ∀ t : Fin grid0.N, win0_6.index t 0 = 0 ∧ win0_6.index t 1 = 0 := by decide +kernel
/-- Region 0: where window 7 lies at step `t`. -/
theorem at0_7 : ∀ t : Fin grid0.N, win0_7.index t 0 = t.val / 2 ∧ win0_7.index t 1 = 0 ∧ win0_7.index t 2 = t.val % 2 := by decide +kernel
/-- Region 0: where window 8 lies at step `t`. -/
theorem at0_8 : ∀ t : Fin grid0.N, win0_8.index t 0 = t.val ∧ win0_8.index t 1 = 0 ∧ win0_8.index t 2 = 0 := by decide +kernel
/-- Region 1: where window 0 lies at step `t`. -/
theorem at1_0 : ∀ t : Fin grid1.N, win1_0.index t 0 = t.val / 2 ∧ win1_0.index t 1 = 0 ∧ win1_0.index t 2 = t.val % 2 := by decide +kernel
/-- Region 1: where window 1 lies at step `t`. -/
theorem at1_1 : ∀ t : Fin grid1.N, win1_1.index t 0 = 0 ∧ win1_1.index t 1 = 0 := by decide +kernel
/-- Region 1: where window 2 lies at step `t`. -/
theorem at1_2 : ∀ t : Fin grid1.N, win1_2.index t 0 = 0 ∧ win1_2.index t 1 = 0 := by decide +kernel
/-- Region 1: where window 3 lies at step `t`. -/
theorem at1_3 : ∀ t : Fin grid1.N, win1_3.index t 0 = 0 ∧ win1_3.index t 1 = 0 := by decide +kernel
/-- Region 1: where window 4 lies at step `t`. -/
theorem at1_4 : ∀ t : Fin grid1.N, win1_4.index t 0 = 0 ∧ win1_4.index t 1 = 0 := by decide +kernel
/-- Region 1: where window 5 lies at step `t`. -/
theorem at1_5 : ∀ t : Fin grid1.N, win1_5.index t 0 = t.val / 2 ∧ win1_5.index t 1 = 0 ∧ win1_5.index t 2 = t.val % 2 := by decide +kernel
/-- Region 1: where window 6 lies at step `t`. -/
theorem at1_6 : ∀ t : Fin grid1.N, win1_6.index t 0 = t.val ∧ win1_6.index t 1 = 0 ∧ win1_6.index t 2 = 0 := by decide +kernel
/-- Region 2: where window 0 lies at step `t`. -/
theorem at2_0 : ∀ t : Fin grid2.N, win2_0.index t 0 = t.val / 2 ∧ win2_0.index t 1 = 0 ∧ win2_0.index t 2 = t.val % 2 := by decide +kernel
/-- Region 2: where window 1 lies at step `t`. -/
theorem at2_1 : ∀ t : Fin grid2.N, win2_1.index t 0 = 0 ∧ win2_1.index t 1 = 0 := by decide +kernel
/-- Region 2: where window 2 lies at step `t`. -/
theorem at2_2 : ∀ t : Fin grid2.N, win2_2.index t 0 = 0 ∧ win2_2.index t 1 = 0 := by decide +kernel
/-- Region 2: where window 3 lies at step `t`. -/
theorem at2_3 : ∀ t : Fin grid2.N, win2_3.index t 0 = t.val / 2 ∧ win2_3.index t 1 = 0 ∧ win2_3.index t 2 = t.val % 2 := by decide +kernel

/-- An array holding the reals `y`, by batch, channel and point. -/
def arr (y : Fin 8 → Fin 256 → Fin 8192 → ℝ) : FVec Ideal S8x256x8192 .f32 := fun i => ((y (i 0) (i 1) (i 2) : ℝ) : EReal)
/-- The array of the sums of every tile of `y`: tile `t` of batch `b` at `2 b + t`. -/
def sums (y : Fin 8 → Fin 256 → Fin 8192 → ℝ) : FVec Ideal S16x2x256 .f32 := fun i => ((stat y (pb (i 0)) (pt (i 0)) (i 1) (i 2) : ℝ) : EReal)

/-- The array at an index lying in tile `t`, -/
theorem arr_at (y : Fin 8 → Fin 256 → Fin 8192 → ℝ) (t : Fin 16) (i : S8x256x8192.Idx) (o : Fin 256) (j : Fin 4096) (h0 : (i 0 : Nat) = t.val / 2)
    (h1 : (i 1 : Nat) = o.val) (h2 : (i 2 : Nat) = t.val % 2 * 4096 + j.val) : arr y i = (y (pb t) o (row (pt t) j) : EReal) := by
  have e0 : (i 0 : Fin 8) = pb t := Fin.ext h0
  have e1 : (i 1 : Fin 256) = o := Fin.ext h1
  have e2 : (i 2 : Fin 8192) = row (pt t) j := Fin.ext h2
  show ((y (i 0) (i 1) (i 2) : ℝ) : EReal) = _
  rw [e0, e1, e2]

/-- the same of the result, -/
theorem out_at (A : Args) (t : Fin 16) (i : S8x256x8192.Idx) (o : Fin 256) (j : Fin 4096) (h0 : (i 0 : Nat) = t.val / 2)
    (h1 : (i 1 : Nat) = o.val) (h2 : (i 2 : Nat) = t.val % 2 * 4096 + j.val) : Out A i = out A (pb t) o (row (pt t) j) := by
  have e0 : (i 0 : Fin 8) = pb t := Fin.ext h0
  have e1 : (i 1 : Fin 256) = o := Fin.ext h1
  have e2 : (i 2 : Fin 8192) = row (pt t) j := Fin.ext h2
  show out A (i 0) (i 1) (i 2) = _
  rw [e0, e1, e2]

/-- and of the sums. -/
theorem sums_at (y : Fin 8 → Fin 256 → Fin 8192 → ℝ) (t : Fin 16) (i : S16x2x256.Idx) (q : Fin 2) (o : Fin 256) (h0 : (i 0 : Nat) = t.val)
    (h1 : (i 1 : Nat) = q.val) (h2 : (i 2 : Nat) = o.val) : sums y i = (stat y (pb t) (pt t) q o : EReal) := by
  have e0 : (i 0 : Fin 16) = t := Fin.ext h0
  have e1 : (i 1 : Fin 2) = q := Fin.ext h1
  have e2 : (i 2 : Fin 256) = o := Fin.ext h2
  show ((stat y (pb (i 0)) (pt (i 0)) (i 1) (i 2) : ℝ) : EReal) = _
  rw [e0, e1, e2]

section Region0

variable (V : (c : Dev nD) → (b : Ref sig .tc) → Buf (Elt Ideal) ((c : Thread nD τ).loc b)) (c : Dev nD) (t : Fin 16)

/-- The large cloud's block. -/
theorem blk0_0 (j : Fin 4096) (k : Fin 3) :
    iblk0 V c 0 t (ix3 (0 : Fin 1) j k) = V c main_arg2 (ix3 (pb t) (row (pt t) j) k) := by
  refine congrArg (V c main_arg2) (funext fun a => Fin.ext ?_)
  obtain ⟨e0, e1, e2⟩ := at0_0 t
  match a with
  | ⟨0, _⟩ => exact (win0_0.rect_emb_val t _ _).trans (by show win0_0.index t 0 * 1 + 0 = t.val / 2; omega)
  | ⟨1, _⟩ => exact (win0_0.rect_emb_val t _ _).trans (by show win0_0.index t 1 * 4096 + j.val = t.val % 2 * 4096 + j.val; omega)
  | ⟨2, _⟩ => exact (win0_0.rect_emb_val t _ _).trans (by show win0_0.index t 2 * 3 + k.val = k.val; omega)

/-- The few points' block. -/
theorem blk0_1 (j : Fin 1024) (k : Fin 3) :
    iblk0 V c 1 t (ix3 (0 : Fin 1) j k) = V c main_arg0 (ix3 (pb t) j k) := by
  refine congrArg (V c main_arg0) (funext fun a => Fin.ext ?_)
  obtain ⟨e0, e1, e2⟩ := at0_1 t
  match a with
  | ⟨0, _⟩ => exact (win0_1.rect_emb_val t _ _).trans (by show win0_1.index t 0 * 1 + 0 = t.val / 2; omega)
  | ⟨1, _⟩ => exact (win0_1.rect_emb_val t _ _).trans (by show win0_1.index t 1 * 1024 + j.val = j.val; omega)
  | ⟨2, _⟩ => exact (win0_1.rect_emb_val t _ _).trans (by show win0_1.index t 2 * 3 + k.val = k.val; omega)

/-- The few points' features' block. -/
theorem blk0_2 (j : Fin 1024) (k : Fin 256) :
    iblk0 V c 2 t (ix3 (0 : Fin 1) j k) = V c main_arg1 (ix3 (pb t) j k) := by
  refine congrArg (V c main_arg1) (funext fun a => Fin.ext ?_)
  obtain ⟨e0, e1, e2⟩ := at0_2 t
  match a with
  | ⟨0, _⟩ => exact (win0_2.rect_emb_val t _ _).trans (by show win0_2.index t 0 * 1 + 0 = t.val / 2; omega)
  | ⟨1, _⟩ => exact (win0_2.rect_emb_val t _ _).trans (by show win0_2.index t 1 * 1024 + j.val = j.val; omega)
  | ⟨2, _⟩ => exact (win0_2.rect_emb_val t _ _).trans (by show win0_2.index t 2 * 256 + k.val = k.val; omega)

/-- The large cloud's features' block. -/
theorem blk0_3 (j : Fin 4096) (k : Fin 128) :
    iblk0 V c 3 t (ix3 (0 : Fin 1) j k) = V c main_arg3 (ix3 (pb t) (row (pt t) j) k) := by
  refine congrArg (V c main_arg3) (funext fun a => Fin.ext ?_)
  obtain ⟨e0, e1, e2⟩ := at0_3 t
  match a with
  | ⟨0, _⟩ => exact (win0_3.rect_emb_val t _ _).trans (by show win0_3.index t 0 * 1 + 0 = t.val / 2; omega)
  | ⟨1, _⟩ => exact (win0_3.rect_emb_val t _ _).trans (by show win0_3.index t 1 * 4096 + j.val = t.val % 2 * 4096 + j.val; omega)
  | ⟨2, _⟩ => exact (win0_3.rect_emb_val t _ _).trans (by show win0_3.index t 2 * 128 + k.val = k.val; omega)

/-- The two parts of the first weight and the first bias, each whole at every point. -/
theorem blk0_4 (j : Fin 256) (k : Fin 128) : iblk0 V c 4 t (ix2 j k) = V c main_v0 (ix2 j k) := by
  refine congrArg (V c main_v0) (funext fun a => Fin.ext ?_)
  match a with
  | ⟨0, _⟩ => exact win0_4.rect_emb_val_of_index_zero t _ (at0_4 t).1 _
  | ⟨1, _⟩ => exact win0_4.rect_emb_val_of_index_zero t _ (at0_4 t).2 _

/-- Region 0: the block of window 5 is its whole array. -/
theorem blk0_5 (j : Fin 256) (k : Fin 256) : iblk0 V c 5 t (ix2 j k) = V c main_v1 (ix2 j k) := by
  refine congrArg (V c main_v1) (funext fun a => Fin.ext ?_)
  match a with
  | ⟨0, _⟩ => exact win0_5.rect_emb_val_of_index_zero t _ (at0_5 t).1 _
  | ⟨1, _⟩ => exact win0_5.rect_emb_val_of_index_zero t _ (at0_5 t).2 _

/-- Region 0: the block of window 6 is its whole array. -/
theorem blk0_6 (j : Fin 256) (k : Fin 1) : iblk0 V c 6 t (ix2 j k) = V c main_v2 (ix2 j k) := by
  refine congrArg (V c main_v2) (funext fun a => Fin.ext ?_)
  match a with
  | ⟨0, _⟩ => exact win0_6.rect_emb_val_of_index_zero t _ (at0_6 t).1 _
  | ⟨1, _⟩ => exact win0_6.rect_emb_val_of_index_zero t _ (at0_6 t).2 _

/-- Every index of an array of values is in the block of the point of its batch and tile. -/
theorem cover0_Y (i : S8x256x8192.Idx) : ∃ t : Fin cfg0.N, (cfg0.win 7).flush t = true ∧ i ∈ ((cfg0.win 7).blk t).view.set := by
  have h0 : (i 0 : Nat) < 8 := (i 0).isLt
  have h1 : (i 1 : Nat) < 256 := (i 1).isLt
  have h2 : (i 2 : Nat) < 8192 := (i 2).isLt
  have hN : cfg0.N = 16 := N_0
  let t : Fin cfg0.N := ⟨(i 0 : Nat) * 2 + (i 2 : Nat) / 4096, by omega⟩
  have ht : t.val = (i 0 : Nat) * 2 + (i 2 : Nat) / 4096 := rfl
  refine ⟨t, flush0_7 _, ?_⟩
  show i ∈ ((View.whole main_v3_0).slice (win0_7.rect t)).set
  rw [View.set_slice_whole, Rect.mem_set_unit]
  obtain ⟨e0, e1, e2⟩ := at0_7 t
  intro a
  match a with
  | ⟨0, _⟩ => show win0_7.index t 0 * 1 ≤ (i 0 : Nat) ∧ (i 0 : Nat) < win0_7.index t 0 * 1 + 1; omega
  | ⟨1, _⟩ => show win0_7.index t 1 * 256 ≤ (i 1 : Nat) ∧ (i 1 : Nat) < win0_7.index t 1 * 256 + 256; omega
  | ⟨2, _⟩ => show win0_7.index t 2 * 4096 ≤ (i 2 : Nat) ∧ (i 2 : Nat) < win0_7.index t 2 * 4096 + 4096; omega

/-- Every index of the array of sums is in the block of its own point. -/
theorem cover0_S (i : S16x2x256.Idx) : ∃ t : Fin cfg0.N, (cfg0.win 8).flush t = true ∧ i ∈ ((cfg0.win 8).blk t).view.set := by
  have h0 : (i 0 : Nat) < 16 := (i 0).isLt
  have h1 : (i 1 : Nat) < 2 := (i 1).isLt
  have h2 : (i 2 : Nat) < 256 := (i 2).isLt
  have hN : cfg0.N = 16 := N_0
  let t : Fin cfg0.N := ⟨(i 0 : Nat), by omega⟩
  have ht : t.val = (i 0 : Nat) := rfl
  refine ⟨t, flush0_8 _, ?_⟩
  show i ∈ ((View.whole main_v3_1).slice (win0_8.rect t)).set
  rw [View.set_slice_whole, Rect.mem_set_unit]
  obtain ⟨e0, e1, e2⟩ := at0_8 t
  intro a
  match a with
  | ⟨0, _⟩ => show win0_8.index t 0 * 1 ≤ (i 0 : Nat) ∧ (i 0 : Nat) < win0_8.index t 0 * 1 + 1; omega
  | ⟨1, _⟩ => show win0_8.index t 1 * 2 ≤ (i 1 : Nat) ∧ (i 1 : Nat) < win0_8.index t 1 * 2 + 2; omega
  | ⟨2, _⟩ => show win0_8.index t 2 * 256 ≤ (i 2 : Nat) ∧ (i 2 : Nat) < win0_8.index t 2 * 256 + 256; omega

variable {A : Args} (hA : Sep A) (g0 : V c main_arg0 = X0 A) (g1 : V c main_arg1 = X1 A) (g2 : V c main_arg2 = X2 A)
  (g3 : V c main_arg3 = X3 A) (g4 : ∀ o (k : Fin 128), V c main_v0 (ix2 o k) = (A.W1 o (lo k) : EReal))
  (g5 : ∀ o (k : Fin 256), V c main_v1 (ix2 o k) = (A.W1 o (hi k) : EReal))
  (g6 : ∀ o, V c main_v2 (ix2 o (0 : Fin 1)) = (A.b1 o : EReal))
include hA g0 g1 g2 g3 g4 g5 g6

/-- The first region leaves the first layer's array before its normalisation, -/
theorem region0_Y : (dat0 V c).arrAt 7 cfg0.N = arr (y1 A) := by
  refine (dat0 V c).arrAt_eq_of_cover 7 (arr (y1 A)) (fun t _ => ?_) cover0_Y
  show (cfg0.win 7).cut (grid0.coords t) ((dat0 V c).after 7 t) = _
  rw [after0_7]
  funext x
  have hx : (x 0 : Nat) < 1 := (x 0).isLt
  obtain ⟨e0, e1, e2⟩ := at0_7 t
  refine (out0_7_apply hA (pb t) (pt t) (iblk0 V c 0 t) (iblk0 V c 1 t) (iblk0 V c 2 t) (iblk0 V c 3 t) (iblk0 V c 4 t) (iblk0 V c 5 t) (iblk0 V c 6 t)
    (fun j k => (blk0_0 V c t j k).trans (by rw [g2]; rfl)) (fun j k => (blk0_1 V c t j k).trans (by rw [g0]; rfl))
    (fun j k => (blk0_2 V c t j k).trans (by rw [g1]; rfl)) (fun j k => (blk0_3 V c t j k).trans (by rw [g3]; rfl))
    (fun o k => (blk0_4 V c t o k).trans (g4 o k)) (fun o k => (blk0_5 V c t o k).trans (g5 o k))
    (fun o => (blk0_6 V c t o 0).trans (g6 o)) _).trans (arr_at (y1 A) t _ _ _ ?_ ?_ ?_).symm
  · exact (win0_7.rect_emb_val t x 0).trans (by show win0_7.index t 0 * 1 + (x 0 : Nat) = t.val / 2; omega)
  · exact (win0_7.rect_emb_val t x 1).trans (by show win0_7.index t 1 * 256 + (x 1 : Nat) = (x 1 : Nat); omega)
  · exact (win0_7.rect_emb_val t x 2).trans (by show win0_7.index t 2 * 4096 + (x 2 : Nat) = t.val % 2 * 4096 + (x 2 : Nat); omega)

/-- and the sums of its tiles. -/
theorem region0_S : (dat0 V c).arrAt 8 cfg0.N = sums (y1 A) := by
  refine (dat0 V c).arrAt_eq_of_cover 8 (sums (y1 A)) (fun t _ => ?_) cover0_S
  show (cfg0.win 8).cut (grid0.coords t) ((dat0 V c).after 8 t) = _
  rw [after0_8]
  funext x
  have hx : (x 0 : Nat) < 1 := (x 0).isLt
  obtain ⟨e0, e1, e2⟩ := at0_8 t
  refine (out0_8_apply hA (pb t) (pt t) (iblk0 V c 0 t) (iblk0 V c 1 t) (iblk0 V c 2 t) (iblk0 V c 3 t) (iblk0 V c 4 t) (iblk0 V c 5 t) (iblk0 V c 6 t)
    (fun j k => (blk0_0 V c t j k).trans (by rw [g2]; rfl)) (fun j k => (blk0_1 V c t j k).trans (by rw [g0]; rfl))
    (fun j k => (blk0_2 V c t j k).trans (by rw [g1]; rfl)) (fun j k => (blk0_3 V c t j k).trans (by rw [g3]; rfl))
    (fun o k => (blk0_4 V c t o k).trans (g4 o k)) (fun o k => (blk0_5 V c t o k).trans (g5 o k))
    (fun o => (blk0_6 V c t o 0).trans (g6 o)) _).trans (sums_at (y1 A) t _ _ _ ?_ ?_ ?_).symm
  · exact (win0_8.rect_emb_val t x 0).trans (by show win0_8.index t 0 * 1 + (x 0 : Nat) = t.val; omega)
  · exact (win0_8.rect_emb_val t x 1).trans (by show win0_8.index t 1 * 2 + (x 1 : Nat) = (x 1 : Nat); omega)
  · exact (win0_8.rect_emb_val t x 2).trans (by show win0_8.index t 2 * 256 + (x 2 : Nat) = (x 2 : Nat); omega)

end Region0

section Region1

variable (V : (c : Dev nD) → (b : Ref sig .tc) → Buf (Elt Ideal) ((c : Thread nD τ).loc b)) (c : Dev nD) (t : Fin 16)

/-- The first layer's block, -/
theorem blk1_0 (o : Fin 256) (j : Fin 4096) :
    iblk1 V c 0 t (ix3 (0 : Fin 1) o j) = V c main_v3_0 (ix3 (pb t) o (row (pt t) j)) := by
  refine congrArg (V c main_v3_0) (funext fun a => Fin.ext ?_)
  obtain ⟨e0, e1, e2⟩ := at1_0 t
  match a with
  | ⟨0, _⟩ => exact (win1_0.rect_emb_val t _ _).trans (by show win1_0.index t 0 * 1 + 0 = t.val / 2; omega)
  | ⟨1, _⟩ => exact (win1_0.rect_emb_val t _ _).trans (by show win1_0.index t 1 * 256 + o.val = o.val; omega)
  | ⟨2, _⟩ => exact (win1_0.rect_emb_val t _ _).trans (by show win1_0.index t 2 * 4096 + j.val = t.val % 2 * 4096 + j.val; omega)

/-- and its scale, its shift, the second weight and the second bias, each whole at every point. -/
theorem blk1_1 (j : Fin 256) (k : Fin 1) : iblk1 V c 1 t (ix2 j k) = V c main_v21 (ix2 j k) := by
  refine congrArg (V c main_v21) (funext fun a => Fin.ext ?_)
  match a with
  | ⟨0, _⟩ => exact win1_1.rect_emb_val_of_index_zero t _ (at1_1 t).1 _
  | ⟨1, _⟩ => exact win1_1.rect_emb_val_of_index_zero t _ (at1_1 t).2 _

/-- Region 1: the block of window 2 is its whole array. -/
theorem blk1_2 (j : Fin 256) (k : Fin 1) : iblk1 V c 2 t (ix2 j k) = V c main_v22 (ix2 j k) := by
  refine congrArg (V c main_v22) (funext fun a => Fin.ext ?_)
  match a with
  | ⟨0, _⟩ => exact win1_2.rect_emb_val_of_index_zero t _ (at1_2 t).1 _
  | ⟨1, _⟩ => exact win1_2.rect_emb_val_of_index_zero t _ (at1_2 t).2 _

/-- Region 1: the block of window 3 is its whole array. -/
theorem blk1_3 (j : Fin 256) (k : Fin 256) : iblk1 V c 3 t (ix2 j k) = V c main_arg8 (ix2 j k) := by
  refine congrArg (V c main_arg8) (funext fun a => Fin.ext ?_)
  match a with
  | ⟨0, _⟩ => exact win1_3.rect_emb_val_of_index_zero t _ (at1_3 t).1 _
  | ⟨1, _⟩ => exact win1_3.rect_emb_val_of_index_zero t _ (at1_3 t).2 _

/-- Region 1: the block of window 4 is its whole array. -/
theorem blk1_4 (j : Fin 256) (k : Fin 1) : iblk1 V c 4 t (ix2 j k) = V c main_v23 (ix2 j k) := by
  refine congrArg (V c main_v23) (funext fun a => Fin.ext ?_)
  match a with
  | ⟨0, _⟩ => exact win1_4.rect_emb_val_of_index_zero t _ (at1_4 t).1 _
  | ⟨1, _⟩ => exact win1_4.rect_emb_val_of_index_zero t _ (at1_4 t).2 _

/-- Every index of an array of values is in the block of the point of its batch and tile. -/
theorem cover1_Y (i : S8x256x8192.Idx) : ∃ t : Fin cfg1.N, (cfg1.win 5).flush t = true ∧ i ∈ ((cfg1.win 5).blk t).view.set := by
  have h0 : (i 0 : Nat) < 8 := (i 0).isLt
  have h1 : (i 1 : Nat) < 256 := (i 1).isLt
  have h2 : (i 2 : Nat) < 8192 := (i 2).isLt
  have hN : cfg1.N = 16 := N_1
  let t : Fin cfg1.N := ⟨(i 0 : Nat) * 2 + (i 2 : Nat) / 4096, by omega⟩
  have ht : t.val = (i 0 : Nat) * 2 + (i 2 : Nat) / 4096 := rfl
  refine ⟨t, flush1_5 _, ?_⟩
  show i ∈ ((View.whole main_v24_0).slice (win1_5.rect t)).set
  rw [View.set_slice_whole, Rect.mem_set_unit]
  obtain ⟨e0, e1, e2⟩ := at1_5 t
  intro a
  match a with
  | ⟨0, _⟩ => show win1_5.index t 0 * 1 ≤ (i 0 : Nat) ∧ (i 0 : Nat) < win1_5.index t 0 * 1 + 1; omega
  | ⟨1, _⟩ => show win1_5.index t 1 * 256 ≤ (i 1 : Nat) ∧ (i 1 : Nat) < win1_5.index t 1 * 256 + 256; omega
  | ⟨2, _⟩ => show win1_5.index t 2 * 4096 ≤ (i 2 : Nat) ∧ (i 2 : Nat) < win1_5.index t 2 * 4096 + 4096; omega

/-- Every index of the array of sums is in the block of its own point. -/
theorem cover1_S (i : S16x2x256.Idx) : ∃ t : Fin cfg1.N, (cfg1.win 6).flush t = true ∧ i ∈ ((cfg1.win 6).blk t).view.set := by
  have h0 : (i 0 : Nat) < 16 := (i 0).isLt
  have h1 : (i 1 : Nat) < 2 := (i 1).isLt
  have h2 : (i 2 : Nat) < 256 := (i 2).isLt
  have hN : cfg1.N = 16 := N_1
  let t : Fin cfg1.N := ⟨(i 0 : Nat), by omega⟩
  have ht : t.val = (i 0 : Nat) := rfl
  refine ⟨t, flush1_6 _, ?_⟩
  show i ∈ ((View.whole main_v24_1).slice (win1_6.rect t)).set
  rw [View.set_slice_whole, Rect.mem_set_unit]
  obtain ⟨e0, e1, e2⟩ := at1_6 t
  intro a
  match a with
  | ⟨0, _⟩ => show win1_6.index t 0 * 1 ≤ (i 0 : Nat) ∧ (i 0 : Nat) < win1_6.index t 0 * 1 + 1; omega
  | ⟨1, _⟩ => show win1_6.index t 1 * 2 ≤ (i 1 : Nat) ∧ (i 1 : Nat) < win1_6.index t 1 * 2 + 2; omega
  | ⟨2, _⟩ => show win1_6.index t 2 * 256 ≤ (i 2 : Nat) ∧ (i 2 : Nat) < win1_6.index t 2 * 256 + 256; omega

variable (A : Args) (g0 : V c main_v3_0 = arr (y1 A))
  (g1 : ∀ o, V c main_v21 (ix2 o (0 : Fin 1)) = ((A.g1 o * (Real.sqrt (var (y1 A) o + eps5))⁻¹ : ℝ) : EReal))
  (g2 : ∀ o, V c main_v22 (ix2 o (0 : Fin 1)) = (A.be1 o : EReal) - ((mean (y1 A) o * (A.g1 o * (Real.sqrt (var (y1 A) o + eps5))⁻¹) : ℝ) : EReal))
  (g3 : V c main_arg8 = X8 A) (g4 : ∀ o, V c main_v23 (ix2 o (0 : Fin 1)) = (A.b2 o : EReal))
include g0 g1 g2 g3 g4

/-- The second region leaves the second layer's array before its normalisation, -/
theorem region1_Y : (dat1 V c).arrAt 5 cfg1.N = arr (y2 A) := by
  refine (dat1 V c).arrAt_eq_of_cover 5 (arr (y2 A)) (fun t _ => ?_) cover1_Y
  show (cfg1.win 5).cut (grid1.coords t) ((dat1 V c).after 5 t) = _
  rw [after1_5]
  funext x
  have hx : (x 0 : Nat) < 1 := (x 0).isLt
  obtain ⟨e0, e1, e2⟩ := at1_5 t
  refine (out1_5_apply A (pb t) (pt t) (iblk1 V c 0 t) (iblk1 V c 1 t) (iblk1 V c 2 t) (iblk1 V c 3 t) (iblk1 V c 4 t)
    (fun o j => (blk1_0 V c t o j).trans (by rw [g0]; rfl)) (fun o => (blk1_1 V c t o 0).trans (g1 o)) (fun o => (blk1_2 V c t o 0).trans (g2 o))
    (fun o k => (blk1_3 V c t o k).trans (by rw [g3]; rfl)) (fun o => (blk1_4 V c t o 0).trans (g4 o)) _).trans (arr_at (y2 A) t _ _ _ ?_ ?_ ?_).symm
  · exact (win1_5.rect_emb_val t x 0).trans (by show win1_5.index t 0 * 1 + (x 0 : Nat) = t.val / 2; omega)
  · exact (win1_5.rect_emb_val t x 1).trans (by show win1_5.index t 1 * 256 + (x 1 : Nat) = (x 1 : Nat); omega)
  · exact (win1_5.rect_emb_val t x 2).trans (by show win1_5.index t 2 * 4096 + (x 2 : Nat) = t.val % 2 * 4096 + (x 2 : Nat); omega)

/-- and the sums of its tiles. -/
theorem region1_S : (dat1 V c).arrAt 6 cfg1.N = sums (y2 A) := by
  refine (dat1 V c).arrAt_eq_of_cover 6 (sums (y2 A)) (fun t _ => ?_) cover1_S
  show (cfg1.win 6).cut (grid1.coords t) ((dat1 V c).after 6 t) = _
  rw [after1_6]
  funext x
  have hx : (x 0 : Nat) < 1 := (x 0).isLt
  obtain ⟨e0, e1, e2⟩ := at1_6 t
  refine (out1_6_apply A (pb t) (pt t) (iblk1 V c 0 t) (iblk1 V c 1 t) (iblk1 V c 2 t) (iblk1 V c 3 t) (iblk1 V c 4 t)
    (fun o j => (blk1_0 V c t o j).trans (by rw [g0]; rfl)) (fun o => (blk1_1 V c t o 0).trans (g1 o)) (fun o => (blk1_2 V c t o 0).trans (g2 o))
    (fun o k => (blk1_3 V c t o k).trans (by rw [g3]; rfl)) (fun o => (blk1_4 V c t o 0).trans (g4 o)) _).trans (sums_at (y2 A) t _ _ _ ?_ ?_ ?_).symm
  · exact (win1_6.rect_emb_val t x 0).trans (by show win1_6.index t 0 * 1 + (x 0 : Nat) = t.val; omega)
  · exact (win1_6.rect_emb_val t x 1).trans (by show win1_6.index t 1 * 2 + (x 1 : Nat) = (x 1 : Nat); omega)
  · exact (win1_6.rect_emb_val t x 2).trans (by show win1_6.index t 2 * 256 + (x 2 : Nat) = (x 2 : Nat); omega)

end Region1

section Region2

variable (V : (c : Dev nD) → (b : Ref sig .tc) → Buf (Elt Ideal) ((c : Thread nD τ).loc b)) (c : Dev nD) (t : Fin 16)

/-- The second layer's block, -/
theorem blk2_0 (o : Fin 256) (j : Fin 4096) :
    iblk2 V c 0 t (ix3 (0 : Fin 1) o j) = V c main_v24_0 (ix3 (pb t) o (row (pt t) j)) := by
  refine congrArg (V c main_v24_0) (funext fun a => Fin.ext ?_)
  obtain ⟨e0, e1, e2⟩ := at2_0 t
  match a with
  | ⟨0, _⟩ => exact (win2_0.rect_emb_val t _ _).trans (by show win2_0.index t 0 * 1 + 0 = t.val / 2; omega)
  | ⟨1, _⟩ => exact (win2_0.rect_emb_val t _ _).trans (by show win2_0.index t 1 * 256 + o.val = o.val; omega)
  | ⟨2, _⟩ => exact (win2_0.rect_emb_val t _ _).trans (by show win2_0.index t 2 * 4096 + j.val = t.val % 2 * 4096 + j.val; omega)

/-- and its scale and shift, each whole at every point. -/
theorem blk2_1 (j : Fin 256) (k : Fin 1) : iblk2 V c 1 t (ix2 j k) = V c main_v42 (ix2 j k) := by
  refine congrArg (V c main_v42) (funext fun a => Fin.ext ?_)
  match a with
  | ⟨0, _⟩ => exact win2_1.rect_emb_val_of_index_zero t _ (at2_1 t).1 _
  | ⟨1, _⟩ => exact win2_1.rect_emb_val_of_index_zero t _ (at2_1 t).2 _

/-- Region 2: the block of window 2 is its whole array. -/
theorem blk2_2 (j : Fin 256) (k : Fin 1) : iblk2 V c 2 t (ix2 j k) = V c main_v43 (ix2 j k) := by
  refine congrArg (V c main_v43) (funext fun a => Fin.ext ?_)
  match a with
  | ⟨0, _⟩ => exact win2_2.rect_emb_val_of_index_zero t _ (at2_2 t).1 _
  | ⟨1, _⟩ => exact win2_2.rect_emb_val_of_index_zero t _ (at2_2 t).2 _

/-- Every index of an array of values is in the block of the point of its batch and tile. -/
theorem cover2_Y (i : S8x256x8192.Idx) : ∃ t : Fin cfg2.N, (cfg2.win 3).flush t = true ∧ i ∈ ((cfg2.win 3).blk t).view.set := by
  have h0 : (i 0 : Nat) < 8 := (i 0).isLt
  have h1 : (i 1 : Nat) < 256 := (i 1).isLt
  have h2 : (i 2 : Nat) < 8192 := (i 2).isLt
  have hN : cfg2.N = 16 := N_2
  let t : Fin cfg2.N := ⟨(i 0 : Nat) * 2 + (i 2 : Nat) / 4096, by omega⟩
  have ht : t.val = (i 0 : Nat) * 2 + (i 2 : Nat) / 4096 := rfl
  refine ⟨t, flush2_3 _, ?_⟩
  show i ∈ ((View.whole main_v44).slice (win2_3.rect t)).set
  rw [View.set_slice_whole, Rect.mem_set_unit]
  obtain ⟨e0, e1, e2⟩ := at2_3 t
  intro a
  match a with
  | ⟨0, _⟩ => show win2_3.index t 0 * 1 ≤ (i 0 : Nat) ∧ (i 0 : Nat) < win2_3.index t 0 * 1 + 1; omega
  | ⟨1, _⟩ => show win2_3.index t 1 * 256 ≤ (i 1 : Nat) ∧ (i 1 : Nat) < win2_3.index t 1 * 256 + 256; omega
  | ⟨2, _⟩ => show win2_3.index t 2 * 4096 ≤ (i 2 : Nat) ∧ (i 2 : Nat) < win2_3.index t 2 * 4096 + 4096; omega

variable (A : Args) (g0 : V c main_v24_0 = arr (y2 A))
  (g1 : ∀ o, V c main_v42 (ix2 o (0 : Fin 1)) = ((A.g2 o * (Real.sqrt (var (y2 A) o + eps5))⁻¹ : ℝ) : EReal))
  (g2 : ∀ o, V c main_v43 (ix2 o (0 : Fin 1)) = A.be2 o - ((mean (y2 A) o * (A.g2 o * (Real.sqrt (var (y2 A) o + eps5))⁻¹) : ℝ) : EReal))
include g0 g1 g2

/-- The third region leaves the result. -/
theorem region2_Y : (dat2 V c).arrAt 3 cfg2.N = Out A := by
  refine (dat2 V c).arrAt_eq_of_cover 3 (Out A) (fun t _ => ?_) cover2_Y
  show (cfg2.win 3).cut (grid2.coords t) ((dat2 V c).after 3 t) = _
  rw [after2_3]
  funext x
  have hx : (x 0 : Nat) < 1 := (x 0).isLt
  obtain ⟨e0, e1, e2⟩ := at2_3 t
  refine (out2_3_apply A (pb t) (pt t) (iblk2 V c 0 t) (iblk2 V c 1 t) (iblk2 V c 2 t)
    (fun o j => (blk2_0 V c t o j).trans (by rw [g0]; rfl)) (fun o => (blk2_1 V c t o 0).trans (g1 o)) (fun o => (blk2_2 V c t o 0).trans (g2 o)) _).trans (out_at A t _ _ _ ?_ ?_ ?_).symm
  · exact (win2_3.rect_emb_val t x 0).trans (by show win2_3.index t 0 * 1 + (x 0 : Nat) = t.val / 2; omega)
  · exact (win2_3.rect_emb_val t x 1).trans (by show win2_3.index t 1 * 256 + (x 1 : Nat) = (x 1 : Nat); omega)
  · exact (win2_3.rect_emb_val t x 2).trans (by show win2_3.index t 2 * 4096 + (x 2 : Nat) = t.val % 2 * 4096 + (x 2 : Nat); omega)

end Region2

end Cert.KernelIdeal.Regions
-- ==== Proof.Host.lean ====
/- The host operations between the regions: a layer's scale and shift from the sums of its tiles. -/
module

public import proofs.«01_k».proof.Proof.Regions

@[expose] public section

set_option maxRecDepth 16384

noncomputable section

open Idealize.ShloMosaic Idealize.ShloMosaic.ValueIdx Idealize.ShloMosaic.TcCoe
open scoped BigOperators

namespace Cert.KernelIdeal.Host

open Cert.KernelIdeal Cert.KernelIdeal.Gen Cert.Spec Cert.Near Cert.Ops Cert.KernelIdeal.Body Cert.KernelIdeal.Regions

/-- A sum over the grid's points is one over batches and tiles, -/
theorem sum_points (f : Fin 8 → Fin 2 → ℝ) : ∑ t : Fin 16, f (pb t) (pt t) = ∑ b, ∑ t, f b t := by
  rw [← Fintype.sum_prod_type (f := fun p : Fin 8 × Fin 2 => f p.1 p.2), ← Equiv.sum_comp (finProdFinEquiv : Fin 8 × Fin 2 ≃ Fin (8 * 2))]
  refine Finset.sum_congr rfl fun p _ => congrArg₂ f (Fin.ext ?_) (Fin.ext ?_)
  · show (p.2.val + 2 * p.1.val) / 2 = p.1.val
    omega
  · show (p.2.val + 2 * p.1.val) % 2 = p.2.val
    omega

/-- and a sum over the queries is one over tiles and their rows. -/
theorem sum_rows (f : Fin 8192 → ℝ) : ∑ t : Fin 2, ∑ j, f (row t j) = ∑ n, f n := by
  rw [← Fintype.sum_prod_type (f := fun p : Fin 2 × Fin 4096 => f (row p.1 p.2)), ← Equiv.sum_comp (finProdFinEquiv : Fin 2 × Fin 4096 ≃ Fin (2 * 4096))]
  refine Finset.sum_congr rfl fun p _ => congrArg f (Fin.ext ?_)
  show p.1.val * 4096 + p.2.val = p.2.val + 4096 * p.1.val
  omega

/-! ## A layer's scale and shift, as the host computes them -/

section Layer

variable (s : FVec Ideal S16x2x256 .f32) (g be : FVec Ideal S256 .f32)

/-- The sums of all tiles together, -/
def tot : FVec Ideal S2x256 .f32 := Host.reduceAdd s (constant S_ .f32 0x00000000#32) reducesTo_S16x2x256_S2x256_d0 h_S_
/-- a row of them over the number of values, -/
def mom0 : FVec Ideal S256 .f32 := Host.divf (shapeCast S256 (extractStridedSlice S1x256 ![0, 0] (tot s) slices_S2x256_S1x256_0_0) shapeCasts_S1x256_S256)
  (broadcastInDim S256 ![] bcast_S_S256 (constant S_ .f32 0x47800000#32))
def mom1 : FVec Ideal S256 .f32 := Host.divf (shapeCast S256 (extractStridedSlice S1x256 ![1, 0] (tot s) slices_S2x256_S1x256_1_0) shapeCasts_S1x256_S256)
  (broadcastInDim S256 ![] bcast_S_S256 (constant S_ .f32 0x47800000#32))
/-- the scale, -/
def scale : FVec Ideal S256 .f32 := mulf g (Host.rsqrt (addf (subf (mom1 s) (mulf (mom0 s) (mom0 s)))
  (broadcastInDim S256 ![] bcast_S_S256 (constant S_ .f32 0x3727C5AC#32))))
/-- the shift. -/
def shift : FVec Ideal S256 .f32 := subf be (mulf (mom0 s) (scale s g))

/-- A vector as a column, by the host. -/
theorem column_apply (v : FVec Ideal S256 .f32) (o : Fin 256) (z : Fin 1) : broadcastInDim S256x1 ![0] bcast_S256_S256x1_0 v (ix2 o z) = v (ix1 o) :=
  broadcastInDim_apply _ bcast_S256_S256x1_0 v (ix2 o z) (ix1 o) (fun a => match a with
    | ⟨0, _⟩ => by show o.val = if (256 : Nat) = 1 then 0 else o.val; rw [if_neg (by decide)])

/-- A number in every entry, by the host. -/
theorem num_apply (w : BitVec 32) (i : S256.Idx) : broadcastInDim S256 ![] bcast_S_S256 (constant (F := Ideal) S_ .f32 w) i = Ideal.ofBits .f32 w :=
  broadcastInDim_apply _ bcast_S_S256 _ i (fun a => a.elim0) (fun a => a.elim0)

/-- Row `q` and channel `o` of the total is the sum over the sixteen tiles. -/
theorem tot_apply (q : Fin 2) (o : Fin 256) : tot s (ix2 q o) = ∑ t : Fin 16, s (ix3 t q o) := by
  unfold tot Host.reduceAdd
  rw [Ideal.hostReduceAdd_def, Ideal.hostReduceAdd_single _ (by decide)]
  have h0 : constant (F := Ideal) S_ .f32 0x00000000#32 (Shape.Idx.first h_S_) = (0 : EReal) := lit_zero
  rw [h0, zero_add]
  refine Finset.sum_congr rfl fun t _ => congrArg s (funext fun a => ?_)
  match a with
  | ⟨0, _⟩ => rfl
  | ⟨1, _⟩ => rfl
  | ⟨2, _⟩ => rfl

variable (y : Fin 8 → Fin 256 → Fin 8192 → ℝ)

/-- The first row of the total of the tiles' sums is the sum over all points. -/
theorem tot_sums0 (o : Fin 256) : tot (sums y) (ix2 0 o) = ((∑ b, ∑ n, y b o n : ℝ) : EReal) := by
  rw [tot_apply]
  refine (coe_sum Finset.univ (fun t : Fin 16 => stat y (pb t) (pt t) 0 o)).symm.trans (congrArg _ ?_)
  rw [sum_points (fun b t => stat y b t 0 o)]
  exact Finset.sum_congr rfl fun b _ => sum_rows (fun n => y b o n)

/-- The second row of the total of the tiles' sums is the sum of squares over all points. -/
theorem tot_sums1 (o : Fin 256) : tot (sums y) (ix2 1 o) = ((∑ b, ∑ n, y b o n * y b o n : ℝ) : EReal) := by
  rw [tot_apply]
  refine (coe_sum Finset.univ (fun t : Fin 16 => stat y (pb t) (pt t) 1 o)).symm.trans (congrArg _ ?_)
  rw [sum_points (fun b t => stat y b t 1 o)]
  exact Finset.sum_congr rfl fun b _ => sum_rows (fun n => y b o n * y b o n)

/-- The first moment is the mean, -/
theorem mom0_apply (o : Fin 256) : mom0 (sums y) (ix1 o) = (mean y o : EReal) := by
  unfold mom0
  show Ideal.div _ _ = _
  rw [num_apply, word_count, unrow_apply, cutRow_apply 0 _ _ (0 : Fin 1) o (by decide)]
  refine (congrArg (Ideal.div · _) (tot_sums0 y o)).trans ?_
  exact div_coe _ _ (by norm_num)

/-- the second the mean of the squares. -/
theorem mom1_apply (o : Fin 256) : mom1 (sums y) (ix1 o) = (((∑ b, ∑ n, y b o n * y b o n) / 65536 : ℝ) : EReal) := by
  unfold mom1
  show Ideal.div _ _ = _
  rw [num_apply, word_count, unrow_apply, cutRow_apply 1 _ _ (0 : Fin 1) o (by decide)]
  refine (congrArg (Ideal.div · _) (tot_sums1 y o)).trans ?_
  exact div_coe _ _ (by norm_num)

/-- The scale is the weight over the deviation, -/
theorem scale_apply (o : Fin 256) (γ : ℝ) (hg : g (ix1 o) = (γ : EReal)) :
    scale (sums y) g (ix1 o) = ((γ * (Real.sqrt (var y o + eps5))⁻¹ : ℝ) : EReal) := by
  unfold scale
  refine (mulf_apply _ _ _).trans ?_
  rw [hg]
  have h : addf (subf (mom1 (sums y)) (mulf (mom0 (sums y)) (mom0 (sums y)))) (broadcastInDim S256 ![] bcast_S_S256 (constant S_ .f32 0x3727C5AC#32)) (ix1 o)
      = ((var y o + eps5 : ℝ) : EReal) := by
    rw [addf_apply, subf_apply, mulf_apply, mom0_apply, mom1_apply, num_apply, word_eps5, ← EReal.coe_mul, ← EReal.coe_sub, var_eq, ← EReal.coe_add]
  have hp : 0 < var y o + eps5 := Real.sqrt_pos.mp (sd_pos y o)
  have hr : ∀ v : FVec Ideal S256 .f32, v (ix1 o) = ((var y o + eps5 : ℝ) : EReal) → Host.rsqrt v (ix1 o) = (((Real.sqrt (var y o + eps5))⁻¹ : ℝ) : EReal) := fun v hv => by
    show Ideal.rsqrt (v (ix1 o)) = _
    rw [hv, Ideal.rsqrt_coe, if_neg (not_lt.mpr hp.le), if_neg hp.ne']
  rw [hr _ h, ← EReal.coe_mul]

/-- the shift what the mean leaves of the offset. -/
theorem shift_apply (o : Fin 256) (γ : ℝ) (hg : g (ix1 o) = (γ : EReal)) :
    shift (sums y) g be (ix1 o) = be (ix1 o) - ((mean y o * (γ * (Real.sqrt (var y o + eps5))⁻¹) : ℝ) : EReal) := by
  unfold shift
  rw [subf_apply, mulf_apply, mom0_apply, scale_apply g y o γ hg, ← EReal.coe_mul]

end Layer

/-! ## What the host operations leave for the regions -/

section Run

variable (m : (ℓ : Loc nD τ sig) → Buf (Elt Ideal) ℓ) (ρ : Dev nD → PrngReg) (c : Dev nD)

/-- Before the first region: the first 128 columns of the first weights. -/
theorem W1_v0 : W1 m ρ c (Proc.devRef .tc main_v0) = extractStridedSlice S256x128 ![0, 0] (m ((c : Thread nD τ).loc main_arg4)) slices_S256x384_S256x128_0_0 := by
  show StableHlo.after hostOps0 (W0 m ρ c) (Proc.devRef .tc main_v0) = _
  after_results
/-- Before the first region: the last 256 columns of the first weights. -/
theorem W1_v1 : W1 m ρ c (Proc.devRef .tc main_v1) = extractStridedSlice S256x256 ![0, 128] (m ((c : Thread nD τ).loc main_arg4)) slices_S256x384_S256x256_0_128 := by
  show StableHlo.after hostOps0 (W0 m ρ c) (Proc.devRef .tc main_v1) = _
  after_results
/-- Before the first region: the first bias as a column. -/
theorem W1_v2 : W1 m ρ c (Proc.devRef .tc main_v2) = broadcastInDim S256x1 ![0] bcast_S256_S256x1_0 (m ((c : Thread nD τ).loc main_arg5)) := by
  show StableHlo.after hostOps0 (W0 m ρ c) (Proc.devRef .tc main_v2) = _
  after_results
/-- Before the second region: the first normalisation's scale as a column. -/
theorem W3_v21 : W3 m ρ c (Proc.devRef .tc main_v21) = broadcastInDim S256x1 ![0] bcast_S256_S256x1_0
    (scale (W2 m ρ c (Proc.devRef .tc main_v3_1)) (W2 m ρ c (Proc.devRef .tc main_arg6))) := by
  show StableHlo.after hostOps1 (W2 m ρ c) (Proc.devRef .tc main_v21) = _
  after_results_simp
  rfl
/-- Before the second region: the first normalisation's shift as a column. -/
theorem W3_v22 : W3 m ρ c (Proc.devRef .tc main_v22) = broadcastInDim S256x1 ![0] bcast_S256_S256x1_0
    (shift (W2 m ρ c (Proc.devRef .tc main_v3_1)) (W2 m ρ c (Proc.devRef .tc main_arg6)) (W2 m ρ c (Proc.devRef .tc main_arg7))) := by
  show StableHlo.after hostOps1 (W2 m ρ c) (Proc.devRef .tc main_v22) = _
  after_results_simp
  rfl
/-- Before the second region: the second bias as a column. -/
theorem W3_v23 : W3 m ρ c (Proc.devRef .tc main_v23) = broadcastInDim S256x1 ![0] bcast_S256_S256x1_0 (W2 m ρ c (Proc.devRef .tc main_arg9)) := by
  show StableHlo.after hostOps1 (W2 m ρ c) (Proc.devRef .tc main_v23) = _
  after_results_simp
/-- Before the third region: the second normalisation's scale as a column. -/
theorem W5_v42 : W5 m ρ c (Proc.devRef .tc main_v42) = broadcastInDim S256x1 ![0] bcast_S256_S256x1_0
    (scale (W4 m ρ c (Proc.devRef .tc main_v24_1)) (W4 m ρ c (Proc.devRef .tc main_arg10))) := by
  show StableHlo.after hostOps2 (W4 m ρ c) (Proc.devRef .tc main_v42) = _
  after_results_simp
  rfl
/-- Before the third region: the second normalisation's shift as a column. -/
theorem W5_v43 : W5 m ρ c (Proc.devRef .tc main_v43) = broadcastInDim S256x1 ![0] bcast_S256_S256x1_0
    (shift (W4 m ρ c (Proc.devRef .tc main_v24_1)) (W4 m ρ c (Proc.devRef .tc main_arg10)) (W4 m ρ c (Proc.devRef .tc main_arg11))) := by
  show StableHlo.after hostOps2 (W4 m ρ c) (Proc.devRef .tc main_v43) = _
  after_results_simp
  rfl

end Run

end Cert.KernelIdeal.Host
-- ==== Proof.KRun.lean ====
/- The kernel's run: its result array holds the specification's. -/
module

public import proofs.«01_k».proof.Proof.Host

@[expose] public section

set_option maxRecDepth 16384

noncomputable section

namespace Cert.KernelIdeal.Host

section Values

open Idealize.ShloMosaic Idealize.ShloMosaic.ValueIdx Idealize.ShloMosaic.TcCoe
open Cert.KernelIdeal Cert.KernelIdeal.Gen Cert.Spec Cert.Near Cert.Ops Cert.KernelIdeal.Body Cert.KernelIdeal.Regions

variable (m : (ℓ : Loc nD τ sig) → Buf (Elt Ideal) ℓ) (ρ : Dev nD → PrngReg) (c : Dev nD) {A : Args} (hA : Sep A)
  (a0 : m ((c : Thread nD τ).loc main_arg0) = X0 A) (a1 : m ((c : Thread nD τ).loc main_arg1) = X1 A)
  (a2 : m ((c : Thread nD τ).loc main_arg2) = X2 A) (a3 : m ((c : Thread nD τ).loc main_arg3) = X3 A)
  (a4 : m ((c : Thread nD τ).loc main_arg4) = X4 A) (a5 : m ((c : Thread nD τ).loc main_arg5) = X5 A)
  (a6 : m ((c : Thread nD τ).loc main_arg6) = X6 A) (a7 : m ((c : Thread nD τ).loc main_arg7) = X7 A)
  (a8 : m ((c : Thread nD τ).loc main_arg8) = X8 A) (a9 : m ((c : Thread nD τ).loc main_arg9) = X9 A)
  (a10 : m ((c : Thread nD τ).loc main_arg10) = X10 A) (a11 : m ((c : Thread nD τ).loc main_arg11) = X11 A)

include hA a0 a1 a2 a3 a4 a5

/-- What the first region finds in its operands gives what it leaves: the first layer before its normalisation, -/
theorem W2_v3 : W2 m ρ c (Proc.devRef .tc main_v3_0) = arr (y1 A) ∧ W2 m ρ c (Proc.devRef .tc main_v3_1) = sums (y1 A) := by
  have w := W1_args m ρ c
  have g0 : V1 m ρ c main_arg0 = X0 A := (w main_arg0 (by decide)).trans a0
  have g1 : V1 m ρ c main_arg1 = X1 A := (w main_arg1 (by decide)).trans a1
  have g2 : V1 m ρ c main_arg2 = X2 A := (w main_arg2 (by decide)).trans a2
  have g3 : V1 m ρ c main_arg3 = X3 A := (w main_arg3 (by decide)).trans a3
  have g4 : ∀ o (k : Fin 128), V1 m ρ c main_v0 (ix2 o k) = (A.W1 o (lo k) : EReal) := fun o k => by
    refine (congrFun (W1_v0 m ρ c) (ix2 o k)).trans ?_
    rw [a4]
    exact cut_apply 0 _ _ o k (by omega)
  have g5 : ∀ o (k : Fin 256), V1 m ρ c main_v1 (ix2 o k) = (A.W1 o (hi k) : EReal) := fun o k => by
    refine (congrFun (W1_v1 m ρ c) (ix2 o k)).trans ?_
    rw [a4]
    exact cut_apply 128 _ _ o k (by omega)
  have g6 : ∀ o, V1 m ρ c main_v2 (ix2 o (0 : Fin 1)) = (A.b1 o : EReal) := fun o => by
    refine (congrFun (W1_v2 m ρ c) (ix2 o 0)).trans ?_
    rw [a5]
    exact column_apply _ o 0
  exact ⟨(W2_arr m ρ c 7).trans (region0_Y (V1 m ρ) c hA g0 g1 g2 g3 g4 g5 g6),
    (W2_arr m ρ c 8).trans (region0_S (V1 m ρ) c hA g0 g1 g2 g3 g4 g5 g6)⟩

include a6 a7 a8 a9

/-- the second layer before its normalisation, -/
theorem W4_v24 : W4 m ρ c (Proc.devRef .tc main_v24_0) = arr (y2 A) ∧ W4 m ρ c (Proc.devRef .tc main_v24_1) = sums (y2 A) := by
  obtain ⟨hy, hs⟩ := W2_v3 m ρ c hA a0 a1 a2 a3 a4 a5
  have w := W2_args m ρ c
  have g0 : V3 m ρ c main_v3_0 = arr (y1 A) := (W3_of m ρ c main_v3_0 (by decide)).trans hy
  have g1 : ∀ o, V3 m ρ c main_v21 (ix2 o (0 : Fin 1)) = ((A.g1 o * (Real.sqrt (var (y1 A) o + eps5))⁻¹ : ℝ) : EReal) := fun o => by
    refine (congrFun (W3_v21 m ρ c) (ix2 o 0)).trans ?_
    rw [hs, (w main_arg6 (by decide)).trans a6]
    exact (column_apply _ o 0).trans (scale_apply _ (y1 A) o (A.g1 o) rfl)
  have g2 : ∀ o, V3 m ρ c main_v22 (ix2 o (0 : Fin 1)) = (A.be1 o : EReal) - ((mean (y1 A) o * (A.g1 o * (Real.sqrt (var (y1 A) o + eps5))⁻¹) : ℝ) : EReal) := fun o => by
    refine (congrFun (W3_v22 m ρ c) (ix2 o 0)).trans ?_
    rw [hs, (w main_arg6 (by decide)).trans a6, (w main_arg7 (by decide)).trans a7]
    exact (column_apply _ o 0).trans (shift_apply _ _ (y1 A) o (A.g1 o) rfl)
  have g3 : V3 m ρ c main_arg8 = X8 A := (W3_args m ρ c main_arg8 (by decide)).trans a8
  have g4 : ∀ o, V3 m ρ c main_v23 (ix2 o (0 : Fin 1)) = (A.b2 o : EReal) := fun o => by
    refine (congrFun (W3_v23 m ρ c) (ix2 o 0)).trans ?_
    rw [(w main_arg9 (by decide)).trans a9]
    exact column_apply _ o 0
  exact ⟨(W4_arr m ρ c 5).trans (region1_Y (V3 m ρ) c A g0 g1 g2 g3 g4), (W4_arr m ρ c 6).trans (region1_S (V3 m ρ) c A g0 g1 g2 g3 g4)⟩

include a10 a11

/-- and the result. -/
theorem W6_v44 : W6 m ρ c (Proc.devRef .tc main_v44) = Out A := by
  obtain ⟨hy, hs⟩ := W4_v24 m ρ c hA a0 a1 a2 a3 a4 a5 a6 a7 a8 a9
  have w := W4_args m ρ c
  have g0 : V5 m ρ c main_v24_0 = arr (y2 A) := (W5_of m ρ c main_v24_0 (by decide)).trans hy
  have g1 : ∀ o, V5 m ρ c main_v42 (ix2 o (0 : Fin 1)) = ((A.g2 o * (Real.sqrt (var (y2 A) o + eps5))⁻¹ : ℝ) : EReal) := fun o => by
    refine (congrFun (W5_v42 m ρ c) (ix2 o 0)).trans ?_
    rw [hs, (w main_arg10 (by decide)).trans a10]
    exact (column_apply _ o 0).trans (scale_apply _ (y2 A) o (A.g2 o) rfl)
  have g2 : ∀ o, V5 m ρ c main_v43 (ix2 o (0 : Fin 1)) = A.be2 o - ((mean (y2 A) o * (A.g2 o * (Real.sqrt (var (y2 A) o + eps5))⁻¹) : ℝ) : EReal) := fun o => by
    refine (congrFun (W5_v43 m ρ c) (ix2 o 0)).trans ?_
    rw [hs, (w main_arg10 (by decide)).trans a10, (w main_arg11 (by decide)).trans a11]
    exact (column_apply _ o 0).trans (shift_apply _ _ (y2 A) o (A.g2 o) rfl)
  exact (W6_arr m ρ c 3).trans (region2_Y (V5 m ρ) c A g0 g1 g2)

end Values

section Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends, and ends with every buffer that outlives it at the contents of the last boundary. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => h)

end Run

end Cert.KernelIdeal.Host
-- ==== Proof.lean ====
/- The claims about the interpolation kernel, assembled: the frames of the three programs, and the value of the
   kernel's result against the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Read
public import proofs.«01_k».proof.Proof.Gen.Pre_finite_and_separated
public import proofs.«01_k».proof.Proof.Ref3
public import proofs.«01_k».proof.Proof.Pre
public import proofs.«01_k».proof.Proof.KRun
public import Idealize.ShloMosaic.Adequacy
public import Idealize.ShloMosaic.Init

@[expose] public section

noncomputable section

namespace Cert.Proof

open Idealize.ShloMosaic Idealize.SL.Sem Cert.Kernel

/-- The reference ends with its arguments as they were and every counter at zero: it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩) (Cert.ReferenceIdeal.Value.run (F := Ideal) m ρ)

/-- The kernel's result array and the reference's both end at the specification's value of the entries the precondition gives. -/
theorem value : Cert.algebraic_KernelIdeal_ReferenceIdeal_pre_finite_and_separated
    (hKernelIdeal := Cert.KernelIdeal.Gen.facts) (hReferenceIdeal := Cert.ReferenceIdeal.Gen.facts) (hPre_finite_and_separated := Cert.Pre_finite_and_separated.Gen.facts) := by
  intro m ρ m' ρ' hpre hagree
  choose A hA e0 e1 e2 e3 e4 e5 e6 e7 e8 e9 e10 e11 using fun c => Cert.Spec.read_pre _ _ _ _ _ _ _ _ _ _ _ _ (hpre c)
  refine ⟨fun c => Cert.Spec.Out (A c), ?_, ?_⟩
  · refine (θ_run Cert.KernelIdeal.defs _ _).mono (fun r h c => ⟨(h c _ (Cert.KernelIdeal.Gen.mem_uc Cert.KernelIdeal.main_v44 (by decide))).trans
      (Cert.KernelIdeal.Host.W6_v44 m ρ c (hA c) (e0 c) (e1 c) (e2 c) (e3 c) (e4 c) (e5 c) (e6 c) (e7 c) (e8 c) (e9 c) (e10 c) (e11 c)),
      (h c _ (Cert.KernelIdeal.Gen.mem_uc Cert.KernelIdeal.main_arg0 (by decide))).trans (Cert.KernelIdeal.Gen.W6_main_arg0 m ρ c),
      (h c _ (Cert.KernelIdeal.Gen.mem_uc Cert.KernelIdeal.main_arg1 (by decide))).trans (Cert.KernelIdeal.Gen.W6_main_arg1 m ρ c),
      (h c _ (Cert.KernelIdeal.Gen.mem_uc Cert.KernelIdeal.main_arg2 (by decide))).trans (Cert.KernelIdeal.Gen.W6_main_arg2 m ρ c),
      (h c _ (Cert.KernelIdeal.Gen.mem_uc Cert.KernelIdeal.main_arg3 (by decide))).trans (Cert.KernelIdeal.Gen.W6_main_arg3 m ρ c),
      (h c _ (Cert.KernelIdeal.Gen.mem_uc Cert.KernelIdeal.main_arg4 (by decide))).trans (Cert.KernelIdeal.Gen.W6_main_arg4 m ρ c),
      (h c _ (Cert.KernelIdeal.Gen.mem_uc Cert.KernelIdeal.main_arg5 (by decide))).trans (Cert.KernelIdeal.Gen.W6_main_arg5 m ρ c),
      (h c _ (Cert.KernelIdeal.Gen.mem_uc Cert.KernelIdeal.main_arg6 (by decide))).trans (Cert.KernelIdeal.Gen.W6_main_arg6 m ρ c),
      (h c _ (Cert.KernelIdeal.Gen.mem_uc Cert.KernelIdeal.main_arg7 (by decide))).trans (Cert.KernelIdeal.Gen.W6_main_arg7 m ρ c),
      (h c _ (Cert.KernelIdeal.Gen.mem_uc Cert.KernelIdeal.main_arg8 (by decide))).trans (Cert.KernelIdeal.Gen.W6_main_arg8 m ρ c),
      (h c _ (Cert.KernelIdeal.Gen.mem_uc Cert.KernelIdeal.main_arg9 (by decide))).trans (Cert.KernelIdeal.Gen.W6_main_arg9 m ρ c),
      (h c _ (Cert.KernelIdeal.Gen.mem_uc Cert.KernelIdeal.main_arg10 (by decide))).trans (Cert.KernelIdeal.Gen.W6_main_arg10 m ρ c),
      (h c _ (Cert.KernelIdeal.Gen.mem_uc Cert.KernelIdeal.main_arg11 (by decide))).trans (Cert.KernelIdeal.Gen.W6_main_arg11 m ρ c)⟩) (Cert.KernelIdeal.Host.run_all (F := Ideal) m ρ)
  · refine (θ_run Cert.ReferenceIdeal.defs _ _).mono (fun r h c => ⟨(h c).1.trans ?_, (h c).2⟩) (Cert.ReferenceIdeal.Value.run (F := Ideal) m' ρ')
    obtain ⟨q0, q1, q2, q3, q4, q5, q6, q7, q8, q9, q10, q11⟩ := hagree c
    have z0 : StableHlo.launchContents m' c (Proc.devRef .tc Cert.ReferenceIdeal.main_arg0) = Cert.Spec.X0 (A c) := q0.trans (e0 c)
    have z1 : StableHlo.launchContents m' c (Proc.devRef .tc Cert.ReferenceIdeal.main_arg1) = Cert.Spec.X1 (A c) := q1.trans (e1 c)
    have z2 : StableHlo.launchContents m' c (Proc.devRef .tc Cert.ReferenceIdeal.main_arg2) = Cert.Spec.X2 (A c) := q2.trans (e2 c)
    have z3 : StableHlo.launchContents m' c (Proc.devRef .tc Cert.ReferenceIdeal.main_arg3) = Cert.Spec.X3 (A c) := q3.trans (e3 c)
    have z4 : StableHlo.launchContents m' c (Proc.devRef .tc Cert.ReferenceIdeal.main_arg4) = Cert.Spec.X4 (A c) := q4.trans (e4 c)
    have z5 : StableHlo.launchContents m' c (Proc.devRef .tc Cert.ReferenceIdeal.main_arg5) = Cert.Spec.X5 (A c) := q5.trans (e5 c)
    have z6 : StableHlo.launchContents m' c (Proc.devRef .tc Cert.ReferenceIdeal.main_arg6) = Cert.Spec.X6 (A c) := q6.trans (e6 c)
    have z7 : StableHlo.launchContents m' c (Proc.devRef .tc Cert.ReferenceIdeal.main_arg7) = Cert.Spec.X7 (A c) := q7.trans (e7 c)
    have z8 : StableHlo.launchContents m' c (Proc.devRef .tc Cert.ReferenceIdeal.main_arg8) = Cert.Spec.X8 (A c) := q8.trans (e8 c)
    have z9 : StableHlo.launchContents m' c (Proc.devRef .tc Cert.ReferenceIdeal.main_arg9) = Cert.Spec.X9 (A c) := q9.trans (e9 c)
    have z10 : StableHlo.launchContents m' c (Proc.devRef .tc Cert.ReferenceIdeal.main_arg10) = Cert.Spec.X10 (A c) := q10.trans (e10 c)
    have z11 : StableHlo.launchContents m' c (Proc.devRef .tc Cert.ReferenceIdeal.main_arg11) = Cert.Spec.X11 (A c) := q11.trans (e11 c)
    refine (Cert.ReferenceIdeal.Read.val_main_v84_eq (F := Ideal) (StableHlo.launchContents m' c)).trans ?_
    rw [z0, z1, z2, z3, z4, z5, z6, z7, z8, z9, z10, z11]
    exact Cert.ReferenceIdeal.Read.v84_eq (hA c)

/-- Everything claimed. -/
theorem claim : Cert.Claim := ⟨Cert.Kernel.Gen.facts, Cert.KernelIdeal.Gen.facts, Cert.ReferenceIdeal.Gen.facts, Cert.Pre_finite_and_separated.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, trivial, value⟩

end Cert.Proof

end
